-- ==== Defs.lean ====
def Pre_Experts [hPre_names_an_expert : Cert.Pre_names_an_expert.Facts] (m : (ℓ : Loc Cert.Experts.nD Cert.Experts.τ Cert.Experts.sig) → Buf (Elt Bits) ℓ) : Prop :=
  ∀ c : Dev Cert.Experts.nD,
    (Cert.Pre_names_an_expert.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_names_an_expert : Cert.Pre_names_an_expert.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_names_an_expert.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_names_an_expert [hPre_names_an_expert : Cert.Pre_names_an_expert.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_names_an_expert.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Experts [hExperts : Cert.Experts.Facts] [hPre_names_an_expert : Cert.Pre_names_an_expert.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_names_an_expert : Cert.Pre_names_an_expert.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_names_an_expert [hExpertsRefIdeal : Cert.ExpertsRefIdeal.Facts] [hPre_names_an_expert : Cert.Pre_names_an_expert.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_names_an_expert m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] [hPre_names_an_expert : Cert.Pre_names_an_expert.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v20) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v30) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v5)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v5) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v8) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)) →
    ∃ (v0 : (c : Dev Cert.InprojIdeal.nD) → Buf (Elt Ideal) ((c.tc : Thread Cert.InprojIdeal.nD Cert.InprojIdeal.τ).loc Cert.InprojIdeal.main_v29_0)) (v1 : (c : Dev Cert.InprojIdeal.nD) → Buf (Elt Ideal) ((c.tc : Thread Cert.InprojIdeal.nD Cert.InprojIdeal.τ).loc Cert.InprojIdeal.main_v29_1)) (v2 : (c : Dev Cert.InprojIdeal.nD) → Buf (Elt Ideal) ((c.tc : Thread Cert.InprojIdeal.nD Cert.InprojIdeal.τ).loc Cert.InprojIdeal.main_v29_2)) (v3 : (c : Dev Cert.InprojIdeal.nD) → Buf (Elt Ideal) ((c.tc : Thread Cert.InprojIdeal.nD Cert.InprojIdeal.τ).loc Cert.InprojIdeal.main_v29_4)) (v4 : (c : Dev Cert.InprojIdeal.nD) → Buf (Elt Ideal) ((c.tc : Thread Cert.InprojIdeal.nD Cert.InprojIdeal.τ).loc Cert.InprojIdeal.main_v29_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v29_0) = v0 c
          ∧ r.2.mem ((c.tc : Thread Cert.InprojIdeal.nD Cert.InprojIdeal.τ).loc Cert.InprojIdeal.main_v29_1) = v1 c
          ∧ r.2.mem ((c.tc : Thread Cert.InprojIdeal.nD Cert.InprojIdeal.τ).loc Cert.InprojIdeal.main_v29_2) = v2 c
          ∧ r.2.mem ((c.tc : Thread Cert.InprojIdeal.nD Cert.InprojIdeal.τ).loc Cert.InprojIdeal.main_v29_4) = v3 c
          ∧ r.2.mem ((c.tc : Thread Cert.InprojIdeal.nD Cert.InprojIdeal.τ).loc Cert.InprojIdeal.main_v29_7) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v156) = v0 c
          ∧ r.2.mem ((c.tc : Thread Cert.InprojRefIdeal.nD Cert.InprojRefIdeal.τ).loc Cert.InprojRefIdeal.main_v158) = v1 c
          ∧ r.2.mem ((c.tc : Thread Cert.InprojRefIdeal.nD Cert.InprojRefIdeal.τ).loc Cert.InprojRefIdeal.main_v160) = v2 c
          ∧ r.2.mem ((c.tc : Thread Cert.InprojRefIdeal.nD Cert.InprojRefIdeal.τ).loc Cert.InprojRefIdeal.main_v163) = v3 c
          ∧ r.2.mem ((c.tc : Thread Cert.InprojRefIdeal.nD Cert.InprojRefIdeal.τ).loc Cert.InprojRefIdeal.main_v164) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11))

def Claim : Prop :=
  ∃ (hExperts : Cert.Experts.Facts) (hExpertsIdeal : Cert.ExpertsIdeal.Facts) (hExpertsRefIdeal : Cert.ExpertsRefIdeal.Facts) (hFfn : Cert.Ffn.Facts) (hFfnIdeal : Cert.FfnIdeal.Facts) (hFfnRefIdeal : Cert.FfnRefIdeal.Facts) (hOutproj : Cert.Outproj.Facts) (hOutprojIdeal : Cert.OutprojIdeal.Facts) (hOutprojRefIdeal : Cert.OutprojRefIdeal.Facts) (hInproj : Cert.Inproj.Facts) (hInprojIdeal : Cert.InprojIdeal.Facts) (hInprojRefIdeal : Cert.InprojRefIdeal.Facts) (hPre_names_an_expert : Cert.Pre_names_an_expert.Facts),
    quiescent_Experts (hExperts := hExperts) (hPre_names_an_expert := hPre_names_an_expert)
    ∧ quiescent_ExpertsIdeal (hExpertsIdeal := hExpertsIdeal) (hPre_names_an_expert := hPre_names_an_expert)
    ∧ quiescent_ExpertsRefIdeal (hExpertsRefIdeal := hExpertsRefIdeal)
    ∧ quiescent_ExpertsRefIdeal_pre_names_an_expert (hExpertsRefIdeal := hExpertsRefIdeal) (hPre_names_an_expert := hPre_names_an_expert)
    ∧ quiescent_Ffn (hFfn := hFfn)
    ∧ quiescent_FfnIdeal (hFfnIdeal := hFfnIdeal)
    ∧ quiescent_FfnRefIdeal (hFfnRefIdeal := hFfnRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Inproj (hInproj := hInproj)
    ∧ quiescent_InprojIdeal (hInprojIdeal := hInprojIdeal)
    ∧ quiescent_InprojRefIdeal (hInprojRefIdeal := hInprojRefIdeal)
    ∧ preserves_Experts_ExpertsIdeal
    ∧ algebraic_ExpertsIdeal_ExpertsRefIdeal (hExpertsIdeal := hExpertsIdeal) (hExpertsRefIdeal := hExpertsRefIdeal) (hPre_names_an_expert := hPre_names_an_expert)
    ∧ preserves_Ffn_FfnIdeal
    ∧ algebraic_FfnIdeal_FfnRefIdeal (hFfnIdeal := hFfnIdeal) (hFfnRefIdeal := hFfnRefIdeal)
    ∧ preserves_Outproj_OutprojIdeal
    ∧ algebraic_OutprojIdeal_OutprojRefIdeal (hOutprojIdeal := hOutprojIdeal) (hOutprojRefIdeal := hOutprojRefIdeal)
    ∧ preserves_Inproj_InprojIdeal
    ∧ algebraic_InprojIdeal_InprojRefIdeal (hInprojIdeal := hInprojIdeal) (hInprojRefIdeal := hInprojRefIdeal)
-- ==== Pre_names_an_expert.lean ====
abbrev S136 : Shape := ⟨1, ![136]⟩
abbrev S139264x1024 : Shape := ⟨2, ![139264, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S136 32) (main_arg2 : FVec F S139264x1024 .f32) (main_arg3 : FVec F S8x1024x3584 .bf16) (main_arg4 : FVec F S8x1024x3584 .bf16) (main_arg5 : FVec F S8x3584x1024 .bf16) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  main_v4
-- ==== Experts.lean ====
abbrev S136 : Shape := ⟨1, ![136]⟩
abbrev S139264x1024 : Shape := ⟨2, ![139264, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 12
  | .smem => 2
  | _ => 0

abbrev bufTy : (tb : Table) → Fin (tcTables nBuf tb) → BufTy
  | .hbm, ⟨0, _⟩ => ⟨S139264x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S139264x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S136, .i32⟩
  | .local _ .smem, ⟨1, _⟩ => ⟨S136, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond3 (i : grid0.Coords) : BitVec 1 :=
  let arg1 : BitVec 32 := BitVec.ofNat 32 (i 1).val
  let c6_i32_22 : BitVec 32 := 6#32
  let v38 : BitVec 1 := Scalar.cmpi .eq arg1 c6_i32_22
  let v39 : BitVec 32 := Scalar.extui v38
  let c0_i32_23 : BitVec 32 := 0#32
  let v40 : BitVec 1 := Scalar.cmpi .ne v39 c0_i32_23
  v40

def k0_cond4 (i : grid0.Coords) (v1 : BitVec 32) : BitVec 1 :=
  let c1_i32 : BitVec 32 := 1#32
  let v2 : BitVec 1 := Scalar.cmpi .eq v1 c1_i32
  let v_true : BitVec 1 := 1#1
  let v5 : BitVec 1 := Scalar.xori v2 v_true
  let arg1 : BitVec 32 := BitVec.ofNat 32 (i 1).val
  let c6_i32 : BitVec 32 := 6#32
  let v6 : BitVec 1 := Scalar.cmpi .eq arg1 c6_i32
  let v7 : BitVec 1 := Scalar.andi v5 v6
  let v8 : BitVec 32 := Scalar.extui v7
  let c0_i32_0 : BitVec 32 := 0#32
  let v9 : BitVec 1 := Scalar.cmpi .ne v8 c0_i32_0
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  ![v1.toNat, c0_i32.toNat, v5.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c6_i32 : BitVec 32 := 6#32
  let v5 : BitVec 32 := Scalar.select v4 arg1 c6_i32
  let c0_i32 : BitVec 32 := 0#32
  let c0_i32_0 : BitVec 32 := 0#32
  ![v1.toNat, v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S136 : Shape := ⟨1, ![136]⟩
abbrev S139264x1024 : Shape := ⟨2, ![139264, 1024]⟩
abbrev S8x1024x3584 : Shape := ⟨3, ![8, 1024, 3584]⟩
abbrev S8x3584x1024 : Shape := ⟨3, ![8, 3584, 1024]⟩
abbrev S_ : Shape := ⟨0, ![]⟩
abbrev S136x1024 : Shape := ⟨2, ![136, 1024]⟩
abbrev S139264 : Shape := ⟨1, ![139264]⟩
abbrev S139264x8x3584 : Shape := ⟨3, ![139264, 8, 3584]⟩
abbrev S8x139264x1024 : Shape := ⟨3, ![8, 139264, 1024]⟩
abbrev S1x139264x1 : Shape := ⟨3, ![1, 139264, 1]⟩
abbrev S8 : Shape := ⟨1, ![8]⟩
abbrev S8x1x1 : Shape := ⟨3, ![8, 1, 1]⟩
abbrev S8x139264x1 : Shape := ⟨3, ![8, 139264, 1]⟩

abbrev nBuf : Space → Nat
  | .hbm => 44
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S139264x1024, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S8x1024x3584, .f32⟩
  | .hbm, ⟨7, _⟩ => ⟨S8x1024x3584, .f32⟩
  | .hbm, ⟨8, _⟩ => ⟨S8x3584x1024, .f32⟩
  | .hbm, ⟨9, _⟩ => ⟨S_, .i32⟩
  | .hbm, ⟨10, _⟩ => ⟨S136, .i32⟩
  | .hbm, ⟨11, _⟩ => ⟨S136, .i1⟩
  | .hbm, ⟨12, _⟩ => ⟨S_, .i32⟩
  | .hbm, ⟨13, _⟩ => ⟨S_, .i32⟩
  | .hbm, ⟨14, _⟩ => ⟨S136, .i32⟩
  | .hbm, ⟨15, _⟩ => ⟨S136, .i32⟩
  | .hbm, ⟨16, _⟩ => ⟨S136x1024, .i32⟩
  | .hbm, ⟨17, _⟩ => ⟨S139264, .i32⟩
  | .hbm, ⟨18, _⟩ => ⟨S139264x8x3584, .f32⟩
  | .hbm, ⟨19, _⟩ => ⟨S139264x8x3584, .f32⟩
  | .hbm, ⟨20, _⟩ => ⟨S139264x8x3584, .f32⟩
  | .hbm, ⟨21, _⟩ => ⟨S139264x8x3584, .f32⟩
  | .hbm, ⟨22, _⟩ => ⟨S_, .f32⟩
  | .hbm, ⟨23, _⟩ => ⟨S139264x8x3584, .f32⟩
  | .hbm, ⟨24, _⟩ => ⟨S139264x8x3584, .f32⟩
  | .hbm, ⟨25, _⟩ => ⟨S_, .f32⟩
  | .hbm, ⟨26, _⟩ => ⟨S139264x8x3584, .f32⟩
  | .hbm, ⟨27, _⟩ => ⟨S139264x8x3584, .f32⟩
  | .hbm, ⟨28, _⟩ => ⟨S139264x8x3584, .f32⟩
  | .hbm, ⟨29, _⟩ => ⟨S139264x8x3584, .f32⟩
  | .hbm, ⟨30, _⟩ => ⟨S8x139264x1024, .f32⟩
  | .hbm, ⟨31, _⟩ => ⟨S1x139264x1, .i32⟩
  | .hbm, ⟨32, _⟩ => ⟨S8, .i32⟩
  | .hbm, ⟨33, _⟩ => ⟨S8x1x1, .i32⟩
  | .hbm, ⟨34, _⟩ => ⟨S8x139264x1, .i32⟩
  | .hbm, ⟨35, _⟩ => ⟨S8x139264x1, .i32⟩
  | .hbm, ⟨36, _⟩ => ⟨S8x139264x1, .i1⟩
  | .hbm, ⟨37, _⟩ => ⟨S_, .f32⟩
  | .hbm, ⟨38, _⟩ => ⟨S_, .f32⟩
  | .hbm, ⟨39, _⟩ => ⟨S8x139264x1024, .i1⟩
  | .hbm, ⟨40, _⟩ => ⟨S8x139264x1024, .f32⟩
  | .hbm, ⟨41, _⟩ => ⟨S8x139264x1024, .f32⟩
  | .hbm, ⟨42, _⟩ => ⟨S_, .f32⟩
  | .hbm, ⟨43, _⟩ => ⟨S139264x1024, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩

abbrev nD : Nat := 1
abbrev τ : Topo := Topo.v7x

variable {F : FTy → Type} [FloatOps F]
-- ==== Ffn.lean ====
abbrev S16x4096x1024 : Shape := ⟨3, ![16, 4096, 1024]⟩
abbrev S1024 : Shape := ⟨1, ![1024]⟩
abbrev S16x1024 : Shape := ⟨2, ![16, 1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S16x1x1024 : Shape := ⟨3, ![16, 1, 1024]⟩
abbrev S1024x1024 : Shape := ⟨2, ![1024, 1024]⟩
abbrev S1x1x1024 : Shape := ⟨3, ![1, 1, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 17
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S65536x1024, .f32⟩
  | .hbm, ⟨9, _⟩ => ⟨S1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S16x4096x1024 : Shape := ⟨3, ![16, 4096, 1024]⟩
abbrev S1024 : Shape := ⟨1, ![1024]⟩
abbrev S16x1024 : Shape := ⟨2, ![16, 1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x2816 : Shape := ⟨3, ![16, 4096, 2816]⟩
abbrev S65536x1024 : Shape := ⟨2, ![65536, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S16x4096x1024, .f32⟩
  | .hbm, ⟨9, _⟩ => ⟨S_, .f32⟩
  | .hbm, ⟨10, _⟩ => ⟨S16x4096, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S_, .f32⟩
  | .hbm, ⟨16, _⟩ => ⟨S16x4096x1, .f32⟩
  | .hbm, ⟨17, _⟩ => ⟨S16x4096x1, .f32⟩
  | .hbm, ⟨18, _⟩ => ⟨S16x4096x1, .f32⟩
  | .hbm, ⟨19, _⟩ => ⟨S16x4096x1024, .f32⟩
  | .hbm, ⟨20, _⟩ => ⟨S16x4096x1024, .f32⟩
  | .hbm, ⟨21, _⟩ => ⟨S1x1x1024, .f32⟩
  | .hbm, ⟨22, _⟩ => ⟨S16x4096x1024, .f32⟩
  | .hbm, ⟨23, _⟩ => ⟨S16x4096x1024, .f32⟩
  | .hbm, ⟨24, _⟩ => ⟨S16x1x1024, .f32⟩
  | .hbm, ⟨25, _⟩ => ⟨S_, .f32⟩
  | .hbm, ⟨26, _⟩ => ⟨S16x1x1024, .f32⟩
  | .hbm, ⟨27, _⟩ => ⟨S16x1x1024, .f32⟩
  | .hbm, ⟨28, _⟩ => ⟨S16x4096x1024, .f32⟩
  | .hbm, ⟨29, _⟩ => ⟨S16x4096x1024, .f32⟩
  | .hbm, ⟨30, _⟩ => ⟨S16x1x1024, .f32⟩
  | .hbm, ⟨31, _⟩ => ⟨S16x4096x1024, .f32⟩
  | .hbm, ⟨32, _⟩ => ⟨S16x4096x1024, .f32⟩
  | .hbm, ⟨33, _⟩ => ⟨S16x4096x2816, .f32⟩
  | .hbm, ⟨34, _⟩ => ⟨S16x4096x2816, .f32⟩
  | .hbm, ⟨35, _⟩ => ⟨S16x4096x2816, .f32⟩
  | .hbm, ⟨36, _⟩ => ⟨S_, .f32⟩
  | .hbm, ⟨37, _⟩ => ⟨S16x4096x2816, .f32⟩
  | .hbm, ⟨38, _⟩ => ⟨S16x4096x2816, .f32⟩
  | .hbm, ⟨39, _⟩ => ⟨S_, .f32⟩
  | .hbm, ⟨40, _⟩ => ⟨S16x4096x2816, .f32⟩
  | .hbm, ⟨41, _⟩ => ⟨S16x4096x2816, .f32⟩
  | .hbm, ⟨42, _⟩ => ⟨S16x4096x2816, .f32⟩
  | .hbm, ⟨43, _⟩ => ⟨S16x4096x2816, .f32⟩
  | .hbm, ⟨44, _⟩ => ⟨S16x4096x2816, .f32⟩
  | .hbm, ⟨45, _⟩ => ⟨S16x4096x1024, .f32⟩
  | .hbm, ⟨46, _⟩ => ⟨S16x1x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Outproj.lean ====
abbrev S16x4096x512 : Shape := ⟨3, ![16, 4096, 512]⟩
abbrev S1024x1024 : Shape := ⟨2, ![1024, 1024]⟩
abbrev S16x4096x1024 : Shape := ⟨3, ![16, 4096, 1024]⟩
abbrev S16x1024 : Shape := ⟨2, ![16, 1024]⟩
abbrev S65536x1024 : Shape := ⟨2, ![65536, 1024]⟩
abbrev S65536x512 : Shape := ⟨2, ![65536, 512]⟩
abbrev S16x1x1024 : Shape := ⟨3, ![16, 1, 1024]⟩
abbrev S1024x512 : Shape := ⟨2, ![1024, 512]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S1024x1024, .f32⟩
  | .hbm, ⟨3, _⟩ => ⟨S16x4096x1024, .f32⟩
  | .hbm, ⟨4, _⟩ => ⟨S16x1024, .f32⟩
  | .hbm, ⟨5, _⟩ => ⟨S65536x1024, .f32⟩
  | .hbm, ⟨6, _⟩ => ⟨S65536x512, .bf16⟩
  | .hbm, ⟨7, _⟩ => ⟨S65536x512, .bf16⟩
  | .hbm, ⟨8, _⟩ => ⟨S1024x1024, .bf16⟩
  | .hbm, ⟨9, _⟩ => ⟨S16x1x1024, .f32⟩
  | .hbm, ⟨10, _⟩ => ⟨S65536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1024, .f32⟩
  | .local _ .vmem, ⟨10, _⟩ => ⟨S1024x1024, .f32⟩
  | _, _ => ⟨S16x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S16x4096x512 : Shape := ⟨3, ![16, 4096, 512]⟩
abbrev S1024x1024 : Shape := ⟨2, ![1024, 1024]⟩
abbrev S16x4096x1024 : Shape := ⟨3, ![16, 4096, 1024]⟩
abbrev S16x1024 : Shape := ⟨2, ![16, 1024]⟩
abbrev S16x1x1024 : Shape := ⟨3, ![16, 1, 1024]⟩
abbrev S65536x1024 : Shape := ⟨2, ![65536, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16x4096x512, .bf16⟩
  | .hbm, ⟨1, _⟩ => ⟨S16x4096x512, .bf16⟩
  | .hbm, ⟨2, _⟩ => ⟨S1024x1024, .f32⟩
  | .hbm, ⟨3, _⟩ => ⟨S16x4096x1024, .f32⟩
  | .hbm, ⟨4, _⟩ => ⟨S16x1024, .f32⟩
  | .hbm, ⟨5, _⟩ => ⟨S16x4096x512, .f32⟩
  | .hbm, ⟨6, _⟩ => ⟨S16x4096x512, .f32⟩
  | .hbm, ⟨7, _⟩ => ⟨S16x4096x1024, .f32⟩
  | .hbm, ⟨8, _⟩ => ⟨S16x4096x1024, .f32⟩
  | .hbm, ⟨9, _⟩ => ⟨S16x1x1024, .f32⟩
  | .hbm, ⟨10, _⟩ => ⟨S16x4096x1024, .f32⟩
  | .hbm, ⟨11, _⟩ => ⟨S16x4096x1024, .f32⟩
  | .hbm, ⟨12, _⟩ => ⟨S16x4096x1024, .f32⟩
  | .hbm, ⟨13, _⟩ => ⟨S65536x1024, .f32⟩
  | _, _ => ⟨S16x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Inproj.lean ====
abbrev S16x4096x1024 : Shape := ⟨3, ![16, 4096, 1024]⟩
abbrev S1024 : Shape := ⟨1, ![1024]⟩
abbrev S16x1024 : Shape := ⟨2, ![16, 1024]⟩
abbrev S1024x3080 : Shape := ⟨2, ![1024, 3080]⟩
abbrev S4x1536 : Shape := ⟨2, ![4, 1536]⟩
abbrev S4 : Shape := ⟨1, ![4]⟩
abbrev S512 : Shape := ⟨1, ![512]⟩
abbrev S4x128x128 : Shape := ⟨3, ![4, 128, 128]⟩
abbrev S4x128 : Shape := ⟨2, ![4, 128]⟩
abbrev S65536x1024 : Shape := ⟨2, ![65536, 1024]⟩
abbrev S1024x2048 : Shape := ⟨2, ![1024, 2048]⟩
abbrev S1024x1024 : Shape := ⟨2, ![1024, 1024]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩
abbrev S128x128 : Shape := ⟨2, ![128, 128]⟩
abbrev S4x128x1 : Shape := ⟨3, ![4, 128, 1]⟩
abbrev S8x128 : Shape := ⟨2, ![8, 128]⟩
abbrev S1 : Shape := ⟨1, ![1]⟩
abbrev S2 : Shape := ⟨1, ![2]⟩
abbrev S1x1024 : Shape := ⟨2, ![1, 1024]⟩
abbrev S16x1x1024 : Shape := ⟨3, ![16, 1, 1024]⟩
abbrev S1x512 : Shape := ⟨2, ![1, 512]⟩
abbrev S65536x512 : Shape := ⟨2, ![65536, 512]⟩
abbrev S512x512x128 : Shape := ⟨3, ![512, 512, 128]⟩
abbrev S65536x128 : Shape := ⟨2, ![65536, 128]⟩
abbrev S512x8x128 : Shape := ⟨3, ![512, 8, 128]⟩
abbrev S512x1024 : Shape := ⟨2, ![512, 1024]⟩
abbrev S1x1x1024 : Shape := ⟨3, ![1, 1, 1024]⟩
abbrev S512x512 : Shape := ⟨2, ![512, 512]⟩
abbrev S4x512x128 : Shape := ⟨3, ![4, 512, 128]⟩
abbrev S512x128 : Shape := ⟨2, ![512, 128]⟩
abbrev S4x8x128 : Shape := ⟨3, ![4, 8, 128]⟩
abbrev S8x1536 : Shape := ⟨2, ![8, 1536]⟩
abbrev S512x1 : Shape := ⟨2, ![512, 1]⟩
abbrev S1024x1536 : Shape := ⟨2, ![1024, 1536]⟩
abbrev S512x1536 : Shape := ⟨2, ![512, 1536]⟩
abbrev S1x1536 : Shape := ⟨2, ![1, 1536]⟩
abbrev S504x1536 : Shape := ⟨2, ![504, 1536]⟩
abbrev S1024x128 : Shape := ⟨2, ![1024, 128]⟩
abbrev S1x128 : Shape := ⟨2, ![1, 128]⟩
abbrev S128x512 : Shape := ⟨2, ![128, 512]⟩
abbrev S1x8x128 : Shape := ⟨3, ![1, 8, 128]⟩
abbrev S1x512x128 : Shape := ⟨3, ![1, 512, 128]⟩
abbrev S1024x512 : Shape := ⟨2, ![1024, 512]⟩
abbrev S1x128x128 : Shape := ⟨3, ![1, 128, 128]⟩

abbrev nBuf : Space → Nat
  | .hbm => 68
  | .vmem => 31
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S16x1024, .f32⟩
  | .hbm, ⟨3, _⟩ => ⟨S16x1024, .f32⟩
  | .hbm, ⟨4, _⟩ => ⟨S1024x3080, .f32⟩
  | .hbm, ⟨5, _⟩ => ⟨S4x1536, .f32⟩
  | .hbm, ⟨6, _⟩ => ⟨S4, .f32⟩
  | .hbm, ⟨7, _⟩ => ⟨S4, .f32⟩
  | .hbm, ⟨8, _⟩ => ⟨S512, .f32⟩
  | .hbm, ⟨9, _⟩ => ⟨S512, .f32⟩
  | .hbm, ⟨10, _⟩ => ⟨S4x128x128, .f32⟩
  | .hbm, ⟨11, _⟩ => ⟨S4x128, .f32⟩
  | .hbm, ⟨12, _⟩ => ⟨S65536x1024, .f32⟩
  | .hbm, ⟨13, _⟩ => ⟨S1024x2048, .f32⟩
  | .hbm, ⟨14, _⟩ => ⟨S1024x1024, .f32⟩
  | .hbm, ⟨15, _⟩ => ⟨S1024x8, .f32⟩
  | .hbm, ⟨16, _⟩ => ⟨S_, .f32⟩
  | .hbm, ⟨17, _⟩ => ⟨S1024x120, .f32⟩
  | .hbm, ⟨18, _⟩ => ⟨S1024x3200, .f32⟩
  | .hbm, ⟨19, _⟩ => ⟨S1024x3200, .bf16⟩
  | .hbm, ⟨20, _⟩ => ⟨S_, .i1⟩
  | .hbm, ⟨21, _⟩ => ⟨S128x128, .i1⟩
  | .hbm, ⟨22, _⟩ => ⟨S128x128, .i32⟩
  | .hbm, ⟨23, _⟩ => ⟨S_, .i32⟩
  | .hbm, ⟨24, _⟩ => ⟨S128x128, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S_, .i1⟩
  | .hbm, ⟨29, _⟩ => ⟨S128x128, .i1⟩
  | .hbm, ⟨30, _⟩ => ⟨S128x128, .i1⟩
  | .hbm, ⟨31, _⟩ => ⟨S_, .f32⟩
  | .hbm, ⟨32, _⟩ => ⟨S_, .f32⟩
  | .hbm, ⟨33, _⟩ => ⟨S4x128x128, .i1⟩
  | .hbm, ⟨34, _⟩ => ⟨S4x128x128, .f32⟩
  | .hbm, ⟨35, _⟩ => ⟨S4x128x128, .f32⟩
  | .hbm, ⟨36, _⟩ => ⟨S4x128x128, .bf16⟩
  | .hbm, ⟨37, _⟩ => ⟨S4x128x1, .f32⟩
  | .hbm, ⟨38, _⟩ => ⟨S4x128x128, .f32⟩
  | .hbm, ⟨39, _⟩ => ⟨S_, .f32⟩
  | .hbm, ⟨40, _⟩ => ⟨S8x128, .f32⟩
  | .hbm, ⟨41, _⟩ => ⟨S4, .f32⟩
  | .hbm, ⟨42, _⟩ => ⟨S4, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S8x128, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S8x128, .f32⟩
  | .hbm, ⟨55, _⟩ => ⟨S1x1024, .f32⟩
  | .hbm, ⟨56, _⟩ => ⟨S16x1x1024, .f32⟩
  | .hbm, ⟨57, _⟩ => ⟨S16x1x1024, .f32⟩
  | .hbm, ⟨58, _⟩ => ⟨S1x512, .f32⟩
  | .hbm, ⟨59, _⟩ => ⟨S1x512, .f32⟩
  | .hbm, ⟨60, _⟩ => ⟨S65536x512, .bf16⟩
  | .hbm, ⟨61, _⟩ => ⟨S65536x512, .bf16⟩
  | .hbm, ⟨62, _⟩ => ⟨S65536x512, .bf16⟩
  | .hbm, ⟨63, _⟩ => ⟨S512x512x128, .bf16⟩
  | .hbm, ⟨64, _⟩ => ⟨S65536x512, .bf16⟩
  | .hbm, ⟨65, _⟩ => ⟨S65536x128, .f32⟩
  | .hbm, ⟨66, _⟩ => ⟨S512x8x128, .f32⟩
  | .hbm, ⟨67, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S4x1536, .f32⟩
  | .local _ .vmem, ⟨9, _⟩ => ⟨S8x128, .f32⟩
  | .local _ .vmem, ⟨10, _⟩ => ⟨S1x512, .f32⟩
  | .local _ .vmem, ⟨11, _⟩ => ⟨S1x512, .f32⟩
  | .local _ .vmem, ⟨12, _⟩ => ⟨S4x128x128, .bf16⟩
  | .local _ .vmem, ⟨13, _⟩ => ⟨S4x128x128, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S4x512x128, .bf16⟩
  | .local _ .vmem, ⟨21, _⟩ => ⟨S4x512x128, .bf16⟩
  | .local _ .vmem, ⟨22, _⟩ => ⟨S512x512, .bf16⟩
  | .local _ .vmem, ⟨23, _⟩ => ⟨S512x512, .bf16⟩
  | .local _ .vmem, ⟨24, _⟩ => ⟨S512x128, .f32⟩
  | .local _ .vmem, ⟨25, _⟩ => ⟨S512x128, .f32⟩
  | .local _ .vmem, ⟨26, _⟩ => ⟨S4x8x128, .f32⟩
  | .local _ .vmem, ⟨27, _⟩ => ⟨S4x8x128, .f32⟩
  | .local _ .vmem, ⟨28, _⟩ => ⟨S512x512, .bf16⟩
  | .local _ .vmem, ⟨29, _⟩ => ⟨S512x512, .bf16⟩
  | .local _ .vmem, ⟨30, _⟩ => ⟨S8x1536, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v8 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29_0 : Ref sig .tc := ⟨.hbm, 60, rfl⟩
abbrev main_v29_1 : Ref sig .tc := ⟨.hbm, 61, rfl⟩
abbrev main_v29_2 : Ref sig .tc := ⟨.hbm, 62, rfl⟩
abbrev main_v29_3 : Ref sig .tc := ⟨.hbm, 63, rfl⟩
abbrev main_v29_4 : Ref sig .tc := ⟨.hbm, 64, rfl⟩
abbrev main_v29_5 : Ref sig .tc := ⟨.hbm, 65, rfl⟩
abbrev main_v29_6 : Ref sig .tc := ⟨.hbm, 66, rfl⟩
abbrev main_v29_7 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InprojRefIdeal.lean ====
abbrev S16x4096x1024 : Shape := ⟨3, ![16, 4096, 1024]⟩
abbrev S1024 : Shape := ⟨1, ![1024]⟩
abbrev S16x1024 : Shape := ⟨2, ![16, 1024]⟩
abbrev S1024x3080 : Shape := ⟨2, ![1024, 3080]⟩
abbrev S4x1536 : Shape := ⟨2, ![4, 1536]⟩
abbrev S4 : Shape := ⟨1, ![4]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x1x1024 : Shape := ⟨3, ![16, 1, 1024]⟩
abbrev S16x4096x3080 : Shape := ⟨3, ![16, 4096, 3080]⟩
abbrev S16x4096x1536 : Shape := ⟨3, ![16, 4096, 1536]⟩
abbrev S16x4099x1536 : Shape := ⟨3, ![16, 4099, 1536]⟩
abbrev S1x1536 : Shape := ⟨2, ![1, 1536]⟩
abbrev S1536 : Shape := ⟨1, ![1536]⟩
abbrev S1x1x1536 : Shape := ⟨3, ![1, 1, 1536]⟩
abbrev S16x4096x512 : Shape := ⟨3, ![16, 4096, 512]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S1x1x512 : Shape := ⟨3, ![1, 1, 512]⟩
abbrev S16x32x128x4x128 : Shape := ⟨5, ![16, 32, 128, 4, 128]⟩
abbrev S128x128 : Shape := ⟨2, ![128, 128]⟩
abbrev S4x16x32x128x128 : Shape := ⟨5, ![4, 16, 32, 128, 128]⟩
abbrev S128x4 : Shape := ⟨2, ![128, 4]⟩
abbrev S1x1x128x4x1 : Shape := ⟨5, ![1, 1, 128, 4, 1]⟩
abbrev S65536x512 : Shape := ⟨2, ![65536, 512]⟩

abbrev nBuf : Space → Nat
  | .hbm => 232
  | .vmem => 0
  | .smem => 0
  | _ => 0

abbrev hbmTy0_0 (i : Nat) : BufTy := match i % 128 with
  | 0 => ⟨S16x4096x1024, .f32⟩
  | 1 => ⟨S1024, .f32⟩
  | 2 => ⟨S16x1024, .f32⟩
  | 3 => ⟨S16x1024, .f32⟩
  | 4 => ⟨S1024x3080, .f32⟩
  | 5 => ⟨S4x1536, .f32⟩
  | 6 => ⟨S4, .f32⟩
  | 7 => ⟨S4, .f32⟩
  | 8 => ⟨S512, .f32⟩
  | 9 => ⟨S512, .f32⟩
  | 10 => ⟨S4x128x128, .f32⟩
  | 11 => ⟨S4x128, .f32⟩
  | 12 => ⟨S16x4096x1024, .f32⟩
  | 13 => ⟨S_, .f32⟩
  | 14 => ⟨S16x4096, .f32⟩
  | 15 => ⟨S16x4096x1, .f32⟩
  | 16 => ⟨S_, .f32⟩
  | 17 => ⟨S16x4096x1, .f32⟩
  | 18 => ⟨S16x4096x1, .f32⟩
  | 19 => ⟨S_, .f32⟩
  | 20 => ⟨S16x4096x1, .f32⟩
  | 21 => ⟨S16x4096x1, .f32⟩
  | 22 => ⟨S16x4096x1, .f32⟩
  | 23 => ⟨S16x4096x1024, .f32⟩
  | 24 => ⟨S16x4096x1024, .f32⟩
  | 25 => ⟨S1x1x1024, .f32⟩
  | 26 => ⟨S16x4096x1024, .f32⟩
  | 27 => ⟨S16x4096x1024, .f32⟩
  | 28 => ⟨S16x1x1024, .f32⟩
  | 29 => ⟨S_, .f32⟩
  | 30 => ⟨S16x1x1024, .f32⟩
  | 31 => ⟨S16x1x1024, .f32⟩
  | 32 => ⟨S16x4096x1024, .f32⟩
  | 33 => ⟨S16x4096x1024, .f32⟩
  | 34 => ⟨S16x1x1024, .f32⟩
  | 35 => ⟨S16x4096x1024, .f32⟩
  | 36 => ⟨S16x4096x1024, .f32⟩
  | 37 => ⟨S16x4096x3080, .f32⟩
  | 38 => ⟨S16x4096x1536, .f32⟩
  | 39 => ⟨S_, .i32⟩
  | 40 => ⟨S_, .f32⟩
  | 41 => ⟨S16x4099x1536, .f32⟩
  | 42 => ⟨S1x1536, .f32⟩
  | 43 => ⟨S1536, .f32⟩
  | 44 => ⟨S16x4096x1536, .f32⟩
  | 45 => ⟨S1x1x1536, .f32⟩
  | 46 => ⟨S16x4096x1536, .f32⟩
  | 47 => ⟨S16x4096x1536, .f32⟩
  | 48 => ⟨S1x1536, .f32⟩
  | 49 => ⟨S1536, .f32⟩
  | 50 => ⟨S16x4096x1536, .f32⟩
  | 51 => ⟨S1x1x1536, .f32⟩
  | 52 => ⟨S16x4096x1536, .f32⟩
  | 53 => ⟨S16x4096x1536, .f32⟩
  | 54 => ⟨S16x4096x1536, .f32⟩
  | 55 => ⟨S1x1536, .f32⟩
  | 56 => ⟨S1536, .f32⟩
  | 57 => ⟨S16x4096x1536, .f32⟩
  | 58 => ⟨S1x1x1536, .f32⟩
  | 59 => ⟨S16x4096x1536, .f32⟩
  | 60 => ⟨S16x4096x1536, .f32⟩
  | 61 => ⟨S16x4096x1536, .f32⟩
  | 62 => ⟨S1x1536, .f32⟩
  | 63 => ⟨S1536, .f32⟩
  | 64 => ⟨S16x4096x1536, .f32⟩
  | 65 => ⟨S1x1x1536, .f32⟩
  | 66 => ⟨S16x4096x1536, .f32⟩
  | 67 => ⟨S16x4096x1536, .f32⟩
  | 68 => ⟨S16x4096x1536, .f32⟩
  | 69 => ⟨S16x4096x1536, .f32⟩
  | 70 => ⟨S16x4096x1536, .f32⟩
  | 71 => ⟨S_, .f32⟩
  | 72 => ⟨S16x4096x1536, .f32⟩
  | 73 => ⟨S16x4096x1536, .f32⟩
  | 74 => ⟨S_, .f32⟩
  | 75 => ⟨S16x4096x1536, .f32⟩
  | 76 => ⟨S16x4096x1536, .f32⟩
  | 77 => ⟨S16x4096x1536, .f32⟩
  | 78 => ⟨S16x4096x512, .f32⟩
  | 79 => ⟨S16x4096x4x128, .f32⟩
  | 80 => ⟨S16x4096x512, .f32⟩
  | 81 => ⟨S16x4096x4x128, .f32⟩
  | 82 => ⟨S16x4096x512, .f32⟩
  | 83 => ⟨S16x4096x4x128, .f32⟩
  | 84 => ⟨S16x4096x512, .f32⟩
  | 85 => ⟨S16x4096x4, .f32⟩
  | 86 => ⟨S16x4096x4, .f32⟩
  | 87 => ⟨S16x4096x4, .f32⟩
  | 88 => ⟨S_, .f32⟩
  | 89 => ⟨S16x4096x4, .f32⟩
  | 90 => ⟨S16x4096x4, .f32⟩
  | 91 => ⟨S_, .f32⟩
  | 92 => ⟨S16x4096x4, .f32⟩
  | 93 => ⟨S16x4096x4, .f32⟩
  | 94 => ⟨S16x4096x4x128, .f32⟩
  | 95 => ⟨S_, .f32⟩
  | 96 => ⟨S16x4096x4, .f32⟩
  | 97 => ⟨S16x4096x4x1, .f32⟩
  | 98 => ⟨S_, .f32⟩
  | 99 => ⟨S16x4096x4x1, .f32⟩
  | 100 => ⟨S16x4096x4x1, .f32⟩
  | 101 => ⟨S16x4096x4x1, .f32⟩
  | 102 => ⟨S16x4096x4x128, .f32⟩
  | 103 => ⟨S16x4096x4x128, .f32⟩
  | 104 => ⟨S_, .f32⟩
  | 105 => ⟨S16x4096x4x128, .f32⟩
  | 106 => ⟨S16x4096x4x128, .f32⟩
  | 107 => ⟨S16x4096x4x128, .f32⟩
  | 108 => ⟨S_, .f32⟩
  | 109 => ⟨S16x4096x4, .f32⟩
  | 110 => ⟨S16x4096x4x1, .f32⟩
  | 111 => ⟨S_, .f32⟩
  | 112 => ⟨S16x4096x4x1, .f32⟩
  | 113 => ⟨S16x4096x4x1, .f32⟩
  | 114 => ⟨S16x4096x4x1, .f32⟩
  | 115 => ⟨S16x4096x4x128, .f32⟩
  | 116 => ⟨S16x4096x4x128, .f32⟩
  | 117 => ⟨S16x4096x4x1, .f32⟩
  | 118 => ⟨S16x4096x4x128, .f32⟩
  | 119 => ⟨S16x4096x4x128, .f32⟩
  | 120 => ⟨S16x4096x4x1, .f32⟩
  | 121 => ⟨S16x4096x4x128, .f32⟩
  | 122 => ⟨S16x4096x4x128, .f32⟩
  | 123 => ⟨S16x4096x512, .f32⟩
  | 124 => ⟨S16x4096x512, .f32⟩
  | 125 => ⟨S16x4096x512, .f32⟩
  | 126 => ⟨S_, .f32⟩
  | 127 => ⟨S16x4096x512, .f32⟩
  | _ => ⟨S16x4096x1024, .f32⟩

abbrev hbmTy0_1 (i : Nat) : BufTy := match i % 128 with
  | 0 => ⟨S16x4096x512, .f32⟩
  | 1 => ⟨S16x4096x512, .f32⟩
  | 2 => ⟨S_, .f32⟩
  | 3 => ⟨S16x4096x512, .f32⟩
  | 4 => ⟨S16x4096x512, .f32⟩
  | 5 => ⟨S16x4096x512, .f32⟩
  | 6 => ⟨S_, .f32⟩
  | 7 => ⟨S16x4096x512, .f32⟩
  | 8 => ⟨S16x4096x512, .f32⟩
  | 9 => ⟨S_, .f32⟩
  | 10 => ⟨S16x4096x512, .f32⟩
  | 11 => ⟨S16x4096x512, .f32⟩
  | 12 => ⟨S16x4096x512, .f32⟩
  | 13 => ⟨S16x4096x512, .f32⟩
  | 14 => ⟨S16x4096x512, .f32⟩
  | 15 => ⟨S16x4096x512, .f32⟩
  | 16 => ⟨S_, .f32⟩
  | 17 => ⟨S16x4096x512, .f32⟩
  | 18 => ⟨S16x4096x512, .f32⟩
  | 19 => ⟨S16x4096x512, .f32⟩
  | 20 => ⟨S_, .f32⟩
  | 21 => ⟨S16x4096x512, .f32⟩
  | 22 => ⟨S16x4096x512, .f32⟩
  | 23 => ⟨S16x4096x512, .f32⟩
  | 24 => ⟨S_, .f32⟩
  | 25 => ⟨S16x4096x512, .f32⟩
  | 26 => ⟨S16x4096x512, .f32⟩
  | 27 => ⟨S_, .f32⟩
  | 28 => ⟨S16x4096x512, .f32⟩
  | 29 => ⟨S16x4096x512, .f32⟩
  | 30 => ⟨S16x4096x512, .f32⟩
  | 31 => ⟨S_, .f32⟩
  | 32 => ⟨S16x4096, .f32⟩
  | 33 => ⟨S16x4096x1, .f32⟩
  | 34 => ⟨S_, .f32⟩
  | 35 => ⟨S16x4096x1, .f32⟩
  | 36 => ⟨S16x4096x1, .f32⟩
  | 37 => ⟨S16x4096x512, .f32⟩
  | 38 => ⟨S16x4096x512, .f32⟩
  | 39 => ⟨S16x4096x512, .f32⟩
  | 40 => ⟨S_, .f32⟩
  | 41 => ⟨S16x4096, .f32⟩
  | 42 => ⟨S16x4096x1, .f32⟩
  | 43 => ⟨S_, .f32⟩
  | 44 => ⟨S16x4096x1, .f32⟩
  | 45 => ⟨S16x4096x1, .f32⟩
  | 46 => ⟨S16x4096x512, .f32⟩
  | 47 => ⟨S16x4096x512, .f32⟩
  | 48 => ⟨S_, .f32⟩
  | 49 => ⟨S16x4096x1, .f32⟩
  | 50 => ⟨S16x4096x1, .f32⟩
  | 51 => ⟨S16x4096x1, .f32⟩
  | 52 => ⟨S16x4096x512, .f32⟩
  | 53 => ⟨S16x4096x512, .f32⟩
  | 54 => ⟨S1x1x512, .f32⟩
  | 55 => ⟨S16x4096x512, .f32⟩
  | 56 => ⟨S16x4096x512, .f32⟩
  | 57 => ⟨S1x1x512, .f32⟩
  | 58 => ⟨S16x4096x512, .f32⟩
  | 59 => ⟨S16x4096x512, .f32⟩
  | 60 => ⟨S16x32x128x4x128, .f32⟩
  | 61 => ⟨S_, .i1⟩
  | 62 => ⟨S128x128, .i1⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S_, .i1⟩
  | 70 => ⟨S128x128, .i1⟩
  | 71 => ⟨S128x128, .i1⟩
  | 72 => ⟨S_, .f32⟩
  | 73 => ⟨S_, .f32⟩
  | 74 => ⟨S4x128x128, .i1⟩
  | 75 => ⟨S4x128x128, .f32⟩
  | 76 => ⟨S4x128x128, .f32⟩
  | 77 => ⟨S4x16x32x128x128, .f32⟩
  | 78 => ⟨S16x32x128x4x128, .f32⟩
  | 79 => ⟨S128x4, .f32⟩
  | 80 => ⟨S1x1x128x4x1, .f32⟩
  | 81 => ⟨S16x32x128x4x128, .f32⟩
  | 82 => ⟨S16x32x128x4x128, .f32⟩
  | 83 => ⟨S16x32x128x4x128, .f32⟩
  | 84 => ⟨S16x32x128x4x128, .f32⟩
  | 85 => ⟨S65536x512, .f32⟩
  | 86 => ⟨S65536x512, .f32⟩
  | 87 => ⟨S65536x512, .bf16⟩
  | 88 => ⟨S65536x512, .f32⟩
  | 89 => ⟨S65536x512, .bf16⟩
  | 90 => ⟨S65536x512, .f32⟩
  | 91 => ⟨S65536x512, .bf16⟩
  | 92 => ⟨S16x4096x512, .f32⟩
  | 93 => ⟨S16x4096x512, .f32⟩
  | 94 => ⟨S_, .f32⟩
  | 95 => ⟨S16x4096x512, .f32⟩
  | 96 => ⟨S16x4096x512, .f32⟩
  | 97 => ⟨S_, .f32⟩
  | 98 => ⟨S16x4096x512, .f32⟩
  | 99 => ⟨S16x4096x512, .f32⟩
  | 100 => ⟨S16x4096x512, .f32⟩
  | 101 => ⟨S65536x512, .f32⟩
  | 102 => ⟨S65536x512, .bf16⟩
  | 103 => ⟨S65536x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_3 : Ref sig .tc := ⟨.hbm, 88, rfl⟩
abbrev main_v62 : Ref sig .tc := ⟨.hbm, 89, rfl⟩
abbrev main_v63 : Ref sig .tc := ⟨.hbm, 90, rfl⟩
abbrev main_cst_4 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_5 : Ref sig .tc := ⟨.hbm, 95, rfl⟩
abbrev main_v67 : Ref sig .tc := ⟨.hbm, 96, rfl⟩
abbrev main_v68 : Ref sig .tc := ⟨.hbm, 97, rfl⟩
abbrev main_cst_6 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_7 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_8 : Ref sig .tc := ⟨.hbm, 108, rfl⟩
abbrev main_v77 : Ref sig .tc := ⟨.hbm, 109, rfl⟩
abbrev main_v78 : Ref sig .tc := ⟨.hbm, 110, rfl⟩
abbrev main_cst_9 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_10 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_11 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_12 : Ref sig .tc := ⟨.hbm, 134, rfl⟩
abbrev main_v99 : Ref sig .tc := ⟨.hbm, 135, rfl⟩
abbrev main_v100 : Ref sig .tc := ⟨.hbm, 136, rfl⟩
abbrev main_cst_13 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_14 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_15 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_16 : Ref sig .tc := ⟨.hbm, 152, rfl⟩
abbrev main_v113 : Ref sig .tc := ⟨.hbm, 153, rfl⟩
abbrev main_v114 : Ref sig .tc := ⟨.hbm, 154, rfl⟩
abbrev main_cst_17 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_18 : Ref sig .tc := ⟨.hbm, 159, rfl⟩
abbrev main_v118 : Ref sig .tc := ⟨.hbm, 160, rfl⟩
abbrev main_v119 : Ref sig .tc := ⟨.hbm, 161, rfl⟩
abbrev main_cst_19 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_20 : Ref sig .tc := ⟨.hbm, 168, rfl⟩
abbrev main_v125 : Ref sig .tc := ⟨.hbm, 169, rfl⟩
abbrev main_v126 : Ref sig .tc := ⟨.hbm, 170, rfl⟩
abbrev main_cst_21 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_22 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_c_23 : Ref sig .tc := ⟨.hbm, 189, rfl⟩
abbrev main_v143 : Ref sig .tc := ⟨.hbm, 190, rfl⟩
abbrev main_call2_v0 : Ref sig .tc := ⟨.hbm, 191, rfl⟩
abbrev main_call2_c : Ref sig .tc := ⟨.hbm, 192, rfl⟩
abbrev main_call2_v1 : Ref sig .tc := ⟨.hbm, 193, rfl⟩
abbrev main_call2_v2 : Ref sig .tc := ⟨.hbm, 194, rfl⟩
abbrev main_call2_v3 : Ref sig .tc := ⟨.hbm, 195, rfl⟩
abbrev main_call2_v4 : Ref sig .tc := ⟨.hbm, 196, rfl⟩
abbrev main_call2_c_0 : Ref sig .tc := ⟨.hbm, 197, rfl⟩
abbrev main_call2_v5 : Ref sig .tc := ⟨.hbm, 198, rfl⟩
abbrev main_v144 : Ref sig .tc := ⟨.hbm, 199, rfl⟩
abbrev main_cst_24 : Ref sig .tc := ⟨.hbm, 200, rfl⟩
abbrev main_call3_v0 : Ref sig .tc := ⟨.hbm, 201, rfl⟩
abbrev main_call3_v1 : Ref sig .tc := ⟨.hbm, 202, rfl⟩
abbrev main_call3_v2 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_call4_v0 : Ref sig .tc := ⟨.hbm, 220, rfl⟩
abbrev main_call4_v1 : Ref sig .tc := ⟨.hbm, 221, rfl⟩
abbrev main_call4_cst : Ref sig .tc := ⟨.hbm, 222, rfl⟩
abbrev main_call4_v2 : Ref sig .tc := ⟨.hbm, 223, rfl⟩
abbrev main_call4_v3 : Ref sig .tc := ⟨.hbm, 224, rfl⟩
abbrev main_call4_cst_0 : Ref sig .tc := ⟨.hbm, 225, rfl⟩
abbrev main_call4_v4 : Ref sig .tc := ⟨.hbm, 226, rfl⟩
abbrev main_call4_v5 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩

abbrev nD : Nat := 1
abbrev τ : Topo := Topo.v7x

variable {F : FTy → Type} [FloatOps F]
-- ==== Proof.ExpertsRun.lean ====
module

public import proofs.«01_k».proof.Proof.Gen.ExpertsIdeal.Flash.Runs
public import Idealize.ShloMosaic.Lib.Pipeline.ValueKit
public import Idealize.ShloMosaic.Lib.Pointwise
public import Idealize.ShloMosaic.Lib.Claim

/-! The experts' kernel run at ANY table that names an expert for every tile, over the extended reals.

The grid is (tile, slice of the hidden width), 136 × 7. Table 0 says which expert's weights a tile is given, table 1
whether the tile holds rows. At a tile that does, the body keeps the rows in one scratch, adds one slice's
contribution to the other scratch at each of the seven points and writes the total at the last; at a tile that does not
it writes zeros at the last point. -/

@[expose] public section

set_option maxRecDepth 16384
set_option Elab.async false

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The two tables as the call's prefetched contents. -/
def both (e v : S136.Idx → BitVec 32) : pre0.Contents (Elt Ideal) :=
  fun | ⟨0, _⟩ => e | ⟨1, _⟩ => v | ⟨_ + 2, h⟩ => absurd h (by simp)

/-- Tables the call can be run at: every block they name lies inside its array. -/
structure Tables where
  e : S136.Idx → BitVec 32
  v : S136.Idx → BitVec 32
  ok : ok0 (F := Ideal) (both e v)

variable (T : Tables)

abbrev adm : (pcfg0 (F := Ideal)).Adm := ⟨both T.e T.v, T.ok⟩
abbrev cfgT : Pipeline.Cfg sig Λ₀ := cfg0 (F := Ideal) (adm T)
abbrev pcs : Fin 1 → Pipeline.Cfg sig Λ₀ := Pipeline.pin (pcfgs (F := Ideal)) fun _ => adm T

/-- The word that the body reads at a point: table 1 at the point's tile. -/
abbrev word (v : S136.Idx → BitVec 32) (i : grid0.Coords) : BitVec 32 :=
  View.readAt (Elt Ideal) (tbM0_1).view (Rect.unit (s := S136) (k0_off1 i) S1.size (k0_off1_inb i)).toLoadRect v (Shape.Idx.first (numel1_S1.symm ▸ Nat.one_pos))

theorem off_eq (i : grid0.Coords) : k0_off1 i = ![(i 0).val] := by
  revert i; decide +kernel

/-- The tile of a point, as an index of the tables. -/
def slotOf (i : grid0.Coords) : S136.Idx := ix1 (i 0)

theorem word_eq (v : S136.Idx → BitVec 32) (i : grid0.Coords) : word v i = v (slotOf i) := by
  show v _ = v _
  congr 1
  funext a
  apply Fin.ext
  match a with
  | ⟨0, _⟩ =>
    exact (show k0_off1 i 0 + 1 * 0 = (i 0).val by rw [off_eq]; rfl)

theorem atD_eq (i : grid0.Coords) : (both T.e T.v).atD 1 (k0_off1 i) = T.v (slotOf i) := by
  unfold Pipeline.Prefetch.Contents.atD
  split
  · show T.v _ = T.v _
    congr 1
    funext a
    apply Fin.ext
    match a with
    | ⟨0, _⟩ =>
      exact (show k0_off1 i 0 = (i 0).val by rw [off_eq]; rfl)
  · rename_i h
    exact (h fun a => by match a with | ⟨0, _⟩ => exact k0_off1_inb i 0).elim

theorem cond1_iff (x : BitVec 32) : k0_cond1 x = 1#1 ↔ x = 1#32 := by
  unfold k0_cond1
  by_cases h : x = 1#32
  · subst h; decide
  · simp only [h, iff_false]
    have : (Scalar.cmpi .eq x 1#32 : BitVec 1) = 0#1 := by
      show BitVec.ofBool (x == 1#32) = 0#1
      rw [beq_false_of_ne h]; rfl
    rw [this]; decide

theorem cond2_iff (i : grid0.Coords) :
    (Scalar.cmpi .ne (Scalar.extui (Scalar.cmpi .eq (BitVec.ofNat 32 (i 1).val) 0#32)) 0#32) = 1#1 ↔ (i 1).val = 0 :=
  (by decide +kernel : ∀ k : Fin 7,
    (Scalar.cmpi .ne (Scalar.extui (Scalar.cmpi .eq (BitVec.ofNat 32 k.val) 0#32)) 0#32) = 1#1 ↔ k.val = 0) (i 1)

theorem cond3_iff (i : grid0.Coords) : k0_cond3 i = 1#1 ↔ (i 1).val = 6 :=
  (by decide +kernel : ∀ k : Fin 7,
    (Scalar.cmpi .ne (Scalar.extui (Scalar.cmpi .eq (BitVec.ofNat 32 k.val) 6#32)) 0#32) = 1#1 ↔ k.val = 6) (i 1)

theorem cond4_iff (i : grid0.Coords) (x : BitVec 32) : k0_cond4 i x = 1#1 ↔ x ≠ 1#32 ∧ (i 1).val = 6 := by
  have key : ∀ k : Fin 7, ∀ b : BitVec 1,
      (Scalar.cmpi .ne (Scalar.extui (Scalar.andi (Scalar.xori b 1#1) (Scalar.cmpi .eq (BitVec.ofNat 32 k.val) 6#32))) 0#32) = 1#1
        ↔ b = 0#1 ∧ k.val = 6 := by decide +kernel
  refine (key (i 1) (Scalar.cmpi .eq x 1#32)).trans (and_congr_left fun _ => ?_)
  by_cases h : x = 1#32
  · subst h; simp only [ne_eq, not_true_eq_false, iff_false]; decide
  · refine iff_of_true ?_ h
    show BitVec.ofBool (x == 1#32) = 0#1
    rw [beq_false_of_ne h]; rfl

/-! ## The points -/

/-- Point `t`'s coordinates. -/
abbrev crd (t : Fin (cfgT T).N) : grid0.Coords := (cfgT T).grid.coords t

theorem crd_0 : ∀ t : Fin grid0.N, (grid0.coords t 0).val = t.val / 7 := by decide +kernel
theorem crd_1 : ∀ t : Fin grid0.N, (grid0.coords t 1).val = t.val % 7 := by decide +kernel

/-- The tile of point `t`. -/
theorem tile_lt (t : Fin grid0.N) : t.val / 7 < 136 := by have := lt_of_lt_of_eq t.isLt N_0; omega
def tile (t : Fin grid0.N) : Fin 136 := ⟨t.val / 7, tile_lt t⟩
theorem crd_tile (t : Fin grid0.N) : slotOf (grid0.coords t) = ix1 (tile t) := by
  funext a
  apply Fin.ext
  match a with
  | ⟨0, _⟩ => exact crd_0 t

/-- Whether point `t`'s tile holds rows. -/
def Holds (t : Fin (cfgT T).N) : Prop := T.v (ix1 (tile t)) = 1#32

theorem holds_iff (t : Fin (cfgT T).N) : k0_cond1 (word T.v (crd T t)) = 1#1 ↔ Holds T t := by
  rw [cond1_iff, word_eq, crd_tile]; exact Iff.rfl
theorem first_iff (t : Fin (cfgT T).N) :
    (Scalar.cmpi .ne (Scalar.extui (Scalar.cmpi .eq (BitVec.ofNat 32 ((crd T t) 1).val) 0#32)) 0#32) = 1#1 ↔ t.val % 7 = 0 := by
  rw [cond2_iff, crd_1]
theorem last_iff (t : Fin (cfgT T).N) : k0_cond3 (crd T t) = 1#1 ↔ t.val % 7 = 6 := by
  rw [cond3_iff, crd_1]
theorem lastEmpty_iff (t : Fin (cfgT T).N) : k0_cond4 (crd T t) (word T.v (crd T t)) = 1#1 ↔ ¬Holds T t ∧ t.val % 7 = 6 := by
  rw [cond4_iff, crd_1, word_eq, crd_tile]; exact Iff.rfl

/-- The output's block is left at the last point of a tile, -/
theorem flush_eq (t : Fin (cfgT T).N) : ((cfgT T).win (4 : Fin 5)).flush t = decide (t.val % 7 = 6) := by
  rw [Pipeline.Window.flush_eq_flushF]
  exact (by decide +kernel : ∀ t : Fin grid0.N,
    (true && (decide (t.val + 1 = grid0.N) || decide (∃ h : t.val + 1 < grid0.N, ∃ a : Fin 2,
      cc0_transform_4 (grid0.coords ⟨t.val + 1, h⟩) a ≠ cc0_transform_4 (grid0.coords t) a))) = decide (t.val % 7 = 6)) t

/-- and only there is it stored to. -/
theorem idle_eq (t : Fin (cfgT T).N) : (cfgT T).idle (4 : Fin 5) ((cfgT T).grid.coords t) = !decide (t.val % 7 = 6) := by
  show (!(k0_cond1 ((both T.e T.v).atD 1 (k0_off1 (crd T t))) == 1#1 && k0_cond3 (crd T t) == 1#1)
    && !(k0_cond4 (crd T t) ((both T.e T.v).atD 1 (k0_off1 (crd T t))) == 1#1)) = _
  rw [atD_eq, ← word_eq T.v (crd T t)]
  by_cases h : t.val % 7 = 6
  · by_cases hv : Holds T t
    · rw [(holds_iff T t).2 hv, (last_iff T t).2 h]; simp [h]
    · rw [(lastEmpty_iff T t).2 ⟨hv, h⟩]; simp [h]
  · have h3 : ¬k0_cond3 (crd T t) = 1#1 := fun q => h ((last_iff T t).1 q)
    have h4 : ¬k0_cond4 (crd T t) (word T.v (crd T t)) = 1#1 := fun q => h ((lastEmpty_iff T t).1 q).2
    simp [h, h3, h4]

theorem fresh_eq (t : Fin (cfgT T).N) : (cfgT T).fresh (4 : Fin 5) t.val = true :=
  Pipeline.Cfg.fresh_tab (cfgT T) (4 : Fin 5) (fun _ => true) rfl
    (fun t => by rw [flush_eq, idle_eq]; by_cases h : t.val % 7 = 6 <;> simp [h]) t.val (Nat.le_of_lt t.isLt)

/-! ## What the buffers hold -/

variable (m : (ℓ : Loc nD τ sig) → Buf (Elt Ideal) ℓ) (ρ : Dev nD → PrngReg)

/-- Window `w`'s block at point `t`, read off its array at launch. -/
def iblk (c : Dev nD) (w : Fin (cfgT T).W) (t : Fin (cfgT T).N) : (((cfgT T).win w).xblock (crd T t)).Idx → Elt Ideal ((cfgT T).win w).elt :=
  (((cfgT T).win w).blk t).view.read (Elt Ideal) (m (((cfgT T).win w).arr.view.loc (c : Thread nD τ)))

abbrev Pair : Type := FVec Ideal S1024x1024 .bf16 × FVec Ideal S1024x1024 .f32

/-- The rows kept and the total so far after a point of a tile that holds rows, from those before it. -/
def next (c : Dev nD) (t : Fin (cfgT T).N) (p : Pair) : Pair :=
  if t.val % 7 = 0 then
    (k0_pay1 (iblk T m c (0 : Fin 5) t), k0_pay3 (k0_pay1 (iblk T m c (0 : Fin 5) t)) (iblk T m c (1 : Fin 5) t) (iblk T m c (2 : Fin 5) t) (k0_pay2 : FVec Ideal S1024x1024 .f32) (iblk T m c (3 : Fin 5) t))
  else (p.1, k0_pay3 p.1 (iblk T m c (1 : Fin 5) t) (iblk T m c (2 : Fin 5) t) p.2 (iblk T m c (3 : Fin 5) t))

/-- The two before position `n`, as if every tile held rows. -/
def kept (c : Dev nD) : ℕ → Pair
  | 0 => (k0_pay1 (F := Ideal) (k0_pay2 (F := Ideal)), k0_pay2 (F := Ideal))
  | n + 1 => if h : n < (cfgT T).N then next T m c ⟨n, h⟩ (kept c n) else kept c n

theorem kept_succ (c : Dev nD) (t : Fin (cfgT T).N) : kept T m c (t.val + 1) = next T m c t (kept T m c t.val) := by
  show (if h : t.val < (cfgT T).N then _ else _) = _
  rw [dif_pos t.isLt]

/-- Before position `n` the scratches hold `kept`: inside a tile that holds rows. -/
def Inside (n : ℕ) : Prop := ∃ h : n < (cfgT T).N, n % 7 ≠ 0 ∧ Holds T ⟨n, h⟩

theorem holds_of_inside_succ (t : Fin (cfgT T).N) (h : Inside T (t.val + 1)) : Holds T t := by
  obtain ⟨h1, h2, h3⟩ := h
  unfold Holds at h3 ⊢
  rw [show tile t = tile ⟨t.val + 1, h1⟩ from Fin.ext (show t.val / 7 = (t.val + 1) / 7 by omega)]
  exact h3

/-- The invariant before a point: the scratches' contents inside a tile that holds rows, the tables. -/
def Phi (c : Dev nD) (t : Fin ((cfgT T).N + 1)) : sProp 𝕄 :=
  iprop((∃ a, ⌜Inside T t.val → a = (kept T m c t.val).1⌝ ∗ (scM0_0.view.loc (c : Thread nD τ) ↦{fullShare} a)) ∗ (∃ a, ⌜Inside T t.val → a = (kept T m c t.val).2⌝ ∗ (scM0_1.view.loc (c : Thread nD τ) ↦{fullShare} a)) ∗ (tbM0_0.view.loc (c : Thread nD τ) ↦{fullShare.right} T.e) ∗ (tbM0_1.view.loc (c : Thread nD τ) ↦{fullShare.right} T.v))

open Classical in
/-- What the output's block holds after the last point of a tile. -/
def total (c : Dev nD) (t : Fin (cfgT T).N) : FVec Ideal S1024x1024 .f32 :=
  if Holds T t then (kept T m c (t.val + 1)).2 else k0_pay4 (F := Ideal)

/-- The proof data of the one pipeline on core `c`. -/
def dats (_ : Fin 1) (c : Dev nD) : Dat τ (Elt Ideal) Unit ℕ (UR sig nD τ) ℕ (cfgT T) c where
  A w := m (((cfgT T).win w).arr.view.loc (c : Thread nD τ))
  after w t := match w with
    | ⟨0, _⟩ => iblk T m c (0 : Fin 5) t
    | ⟨1, _⟩ => iblk T m c (1 : Fin 5) t
    | ⟨2, _⟩ => iblk T m c (2 : Fin 5) t
    | ⟨3, _⟩ => iblk T m c (3 : Fin 5) t
    | ⟨4, _⟩ => total T m c t
  Φ t := Phi T m c t
  q _ := fullShare
  owed _ := 0

theorem after0_0 (c : Dev nD) (t : Fin (cfgT T).N) : (dats T m 0 c).after (0 : Fin 5) t = iblk T m c (0 : Fin 5) t := rfl
theorem after0_1 (c : Dev nD) (t : Fin (cfgT T).N) : (dats T m 0 c).after (1 : Fin 5) t = iblk T m c (1 : Fin 5) t := rfl
theorem after0_2 (c : Dev nD) (t : Fin (cfgT T).N) : (dats T m 0 c).after (2 : Fin 5) t = iblk T m c (2 : Fin 5) t := rfl
theorem after0_3 (c : Dev nD) (t : Fin (cfgT T).N) : (dats T m 0 c).after (3 : Fin 5) t = iblk T m c (3 : Fin 5) t := rfl
theorem after0_4 (c : Dev nD) (t : Fin (cfgT T).N) : (dats T m 0 c).after (4 : Fin 5) t = total T m c t := rfl

theorem before0_0 (c : Dev nD) (t : Fin (cfgT T).N) (d) : (dats T m 0 c).before (0 : Fin 5) t d = iblk T m c (0 : Fin 5) t :=
  ((dats T m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgT T).N) (d) : (dats T m 0 c).before (1 : Fin 5) t d = iblk T m c (1 : Fin 5) t :=
  ((dats T m 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgT T).N) (d) : (dats T m 0 c).before (2 : Fin 5) t d = iblk T m c (2 : Fin 5) t :=
  ((dats T m 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgT T).N) (d) : (dats T m 0 c).before (3 : Fin 5) t d = iblk T m c (3 : Fin 5) t :=
  ((dats T m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Nothing is known of the output's block before the body: no point carries it. -/
theorem before0_4 (c : Dev nD) (t : Fin (cfgT T).N) (d) : (dats T m 0 c).before (4 : Fin 5) t d = d := by
  rw [(dats T m 0 c).before_out_traj (4 : Fin 5) rfl (fun _ _ => rfl)
    (fun t _ _ hf => by rw [fresh_eq] at hf; exact absurd hf (by decide)) t.val t rfl d, if_pos (fresh_eq T t)]

/-! ## What each path of the body leaves -/

section Paths

variable (c : Dev nD) (i : grid0.Coords)
  (a4 : Memref sig .tc .vmem S1024x1024 .f32) (w4 : a4.IsWhole) (a5 : Memref sig .tc .vmem S1x1024x512 .bf16) (w5 : a5.IsWhole)
  (a6 : Memref sig .tc .vmem S1x1024x512 .bf16) (w6 : a6.IsWhole) (a7 : Memref sig .tc .vmem S1x512x1024 .bf16) (w7 : a7.IsWhole)
  (a8 : Memref sig .tc .vmem S1024x1024 .f32) (w8 : a8.IsWhole) (T0 T1 : S136.Idx → Elt Ideal .i32)
  (x0 : S1024x1024.Idx → Elt Ideal .f32) (x1 : S1x1024x512.Idx → Elt Ideal .bf16) (x2 : S1x1024x512.Idx → Elt Ideal .bf16) (x3 : S1x512x1024.Idx → Elt Ideal .bf16)

theorem first_rows (h1) (h2) (h3) (h4) :
    (kernelRun0_A c i a4 w4 a5 w5 a6 w6 a7 w7 a8 w8 T0 T1 x0 x1 x2 x3 h1 h2 h3 h4).1 = k0_pay1 x0 := by
  show (View.whole cc0_scratch0).read (Elt Ideal) _ = _
  frame_out
  simp only [View.read_rep, View.read_whole]
  exact View.canon_cons_unit_lit _ _ _ (by decide)

theorem first_sum (h1) (h2) (h3) (h4) :
    (kernelRun0_A c i a4 w4 a5 w5 a6 w6 a7 w7 a8 w8 T0 T1 x0 x1 x2 x3 h1 h2 h3 h4).2.1
      = k0_pay3 (k0_pay1 x0) x1 x2 (k0_pay2 : FVec Ideal S1024x1024 .f32) x3 := by
  show (View.whole cc0_scratch1).read (Elt Ideal) _ = _
  frame_out
  simp only [View.read_rep, View.read_whole]
  exact View.canon_cons_unit_lit _ _ _ (by decide)

variable (y0 : FVec Ideal S1024x1024 .bf16) (y1 : FVec Ideal S1024x1024 .f32)

theorem mid_rows (h1) (h2) (h3) (h4) :
    (kernelRun0_B c i a4 w4 a5 w5 a6 w6 a7 w7 a8 w8 T0 T1 x0 x1 x2 x3 y0 y1 h1 h2 h3 h4).1 = y0 := by
  show (View.whole cc0_scratch0).read (Elt Ideal) _ = _
  frame_out
  exact View.read_whole _ _

theorem mid_sum (h1) (h2) (h3) (h4) :
    (kernelRun0_B c i a4 w4 a5 w5 a6 w6 a7 w7 a8 w8 T0 T1 x0 x1 x2 x3 y0 y1 h1 h2 h3 h4).2.1
      = k0_pay3 y0 x1 x2 y1 x3 := by
  show (View.whole cc0_scratch1).read (Elt Ideal) _ = _
  frame_out
  simp only [View.read_rep, View.read_whole]
  exact View.canon_cons_unit_lit _ _ _ (by decide)

theorem last_out (h1) (h2) (h3) (h4) :
    out0_C_4 c i a4 w4 a5 w5 a6 w6 a7 w7 a8 w8 T0 T1 x0 x1 x2 x3 y0 y1 h1 h2 h3 h4
      = k0_pay3 y0 x1 x2 y1 x3 := by
  frame_out
  simp only [View.read_rep, View.read_whole]

theorem empty_out (h1) (h4) :
    out0_E_4 c i a4 w4 a5 w5 a6 w6 a7 w7 a8 w8 T0 T1 x0 x1 x2 x3 y0 y1 h1 h4
      = (k0_pay4 : FVec Ideal S1024x1024 .f32) := by
  frame_out

end Paths

/-! ## The body's obligation, path by path -/

abbrev ms0_0 (t : Fin (cfgT T).N) : Memref sig .tc .vmem S1024x1024 .f32 := spec0_0.stage ((cfgT T).slots t (0 : Fin 5))
abbrev hs0_0 (t : Fin (cfgT T).N) : (ms0_0 T t).IsWhole := hstage0_0 (((cfgT T).slots t (0 : Fin 5)).cast nbuf0_0)
abbrev ms0_1 (t : Fin (cfgT T).N) : Memref sig .tc .vmem S1x1024x512 .bf16 := spec0_1.stage ((cfgT T).slots t (1 : Fin 5))
abbrev hs0_1 (t : Fin (cfgT T).N) : (ms0_1 T t).IsWhole := hstage0_1 (((cfgT T).slots t (1 : Fin 5)).cast nbuf0_1)
abbrev ms0_2 (t : Fin (cfgT T).N) : Memref sig .tc .vmem S1x1024x512 .bf16 := spec0_2.stage ((cfgT T).slots t (2 : Fin 5))
abbrev hs0_2 (t : Fin (cfgT T).N) : (ms0_2 T t).IsWhole := hstage0_2 (((cfgT T).slots t (2 : Fin 5)).cast nbuf0_2)
abbrev ms0_3 (t : Fin (cfgT T).N) : Memref sig .tc .vmem S1x512x1024 .bf16 := spec0_3.stage ((cfgT T).slots t (3 : Fin 5))
abbrev hs0_3 (t : Fin (cfgT T).N) : (ms0_3 T t).IsWhole := hstage0_3 (((cfgT T).slots t (3 : Fin 5)).cast nbuf0_3)
abbrev ms0_4 (t : Fin (cfgT T).N) : Memref sig .tc .vmem S1024x1024 .f32 := spec0_4.stage ((cfgT T).slots t (4 : Fin 5))
abbrev hs0_4 (t : Fin (cfgT T).N) : (ms0_4 T t).IsWhole := hstage0_4 (((cfgT T).slots t (4 : Fin 5)).cast nbuf0_4)

/-- The body at point `t` on its staging memrefs. -/
abbrev bodyAt (t : Fin (cfgT T).N) : Prog (TpuEff nD τ sig (Elt Ideal) Λ₀ .tc) PUnit :=
  cc0_experts (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (Memref.whole cc0_scratch0) (Memref.isWhole_whole _) (Memref.whole cc0_scratch1) (Memref.isWhole_whole _)

/-- What the body is given at a point, -/
abbrev Given (c : Dev nD) (t : Fin (cfgT T).N) : sProp 𝕄 :=
  iprop((dats T m 0 c).Φ t.castSucc ∗ (dats T m 0 c).owesAt () t.castSucc
    ∗ (∃ d, owns (c : Thread nD τ) (ms0_0 T t) fullShare ((dats T m 0 c).before (0 : Fin 5) t d))
    ∗ (∃ d, owns (c : Thread nD τ) (ms0_1 T t) fullShare ((dats T m 0 c).before (1 : Fin 5) t d))
    ∗ (∃ d, owns (c : Thread nD τ) (ms0_2 T t) fullShare ((dats T m 0 c).before (2 : Fin 5) t d))
    ∗ (∃ d, owns (c : Thread nD τ) (ms0_3 T t) fullShare ((dats T m 0 c).before (3 : Fin 5) t d))
    ∗ (∃ d, owns (c : Thread nD τ) (ms0_4 T t) fullShare ((dats T m 0 c).before (4 : Fin 5) t d)))

/-- and what it must leave. -/
abbrev Left (c : Dev nD) (t : Fin (cfgT T).N) : sProp 𝕄 :=
  iprop((dats T m 0 c).Φ t.succ ∗ (dats T m 0 c).owesAt () t.succ
    ∗ bigSep Finset.univ fun w : Fin (cfgT T).W =>
        match (cfgT T).idle w ((cfgT T).grid.coords t) with
        | true =>
          match ((cfgT T).win w).flush t with
          | false => iprop(∃ d, owns (c : Thread nD τ) (((cfgT T).win w).stage ((cfgT T).slots t w)) fullShare ((dats T m 0 c).before w t d))
          | true => owns (c : Thread nD τ) (((cfgT T).win w).stage ((cfgT T).slots t w)) fullShare ((dats T m 0 c).after w t)
        | false => owns (c : Thread nD τ) (((cfgT T).win w).stage ((cfgT T).slots t w)) fullShare ((dats T m 0 c).after w t))

/-- The invariant and what a tile that is not at its last point leaves. -/
theorem inside_of (t : Fin (cfgT T).N) (h : Holds T t) (h0 : t.val % 7 ≠ 0) : Inside T t.val := ⟨t.isLt, h0, h⟩

set_option maxHeartbeats 4000000 in
/-- The first point of a tile that holds rows. -/
theorem point_A (c : Dev nD) (t : Fin (cfgT T).N) (hv : Holds T t) (h0 : t.val % 7 = 0) :
    Given T m c t ⊢ wp frame (wpE (defs₀ (F := Ideal)) Variants.none c none) Set.univ (bodyAt T t) fun _ => Left T m c t := by
  have h6 : t.val % 7 ≠ 6 := by omega
  have k1 := (holds_iff T t).2 hv
  have k2 := (first_iff T t).2 h0
  have k3 : ¬k0_cond3 (crd T t) = 1#1 := fun q => h6 ((last_iff T t).1 q)
  have k4 : ¬k0_cond4 (crd T t) (word T.v (crd T t)) = 1#1 := fun q => h6 ((lastEmpty_iff T t).1 q).2
  have f4 : (pcfg0.win (adm T) (4 : Fin 5)).flush t = false := (flush_eq T t).trans (decide_eq_false h6)
  unfold Given Left
  rw [bigSep_W0]
  rewrite [idle_eq, show decide (t.val % 7 = 6) = false from decide_eq_false h6]
  simp only [before0_0, before0_1, before0_2, before0_3, before0_4, after0_0, after0_1, after0_2, after0_3, after0_4, f4, Bool.not_true, Bool.not_false]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi; simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
  iapply ((kernelRun0_A c (crd T t) (ms0_0 T t) (hs0_0 T t) (ms0_1 T t) (hs0_1 T t) (ms0_2 T t) (hs0_2 T t) (ms0_3 T t) (hs0_3 T t) (ms0_4 T t) (hs0_4 T t) T.e T.v (iblk T m c (0 : Fin 5) t) (iblk T m c (1 : Fin 5) t) (iblk T m c (2 : Fin 5) t) (iblk T m c (3 : Fin 5) t) k1 k2 k3 k4).2.2 _ a0 a1 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, H4, HS0, HS1⟩
  isplitl [HS0 HS1 HT0 HT1]
  · isplitl [HS0]
    · iexists _; isplitr; swap
      · iexact HS0
      · ipureintro; intro hn
        rw [kept_succ]; unfold next; rw [if_pos h0]
        exact first_rows _ _ _ _ _ _ _ _ _ _ _ _ _ _ _ _ _ _ _ _ _ _
    isplitl [HS1]
    · iexists _; isplitr; swap
      · iexact HS1
      · ipureintro; intro hn
        rw [kept_succ]; unfold next; rw [if_pos h0]
        exact first_sum _ _ _ _ _ _ _ _ _ _ _ _ _ _ _ _ _ _ _ _ _ _
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- A middle point of a tile that holds rows. -/
theorem point_B (c : Dev nD) (t : Fin (cfgT T).N) (hv : Holds T t) (h0 : t.val % 7 ≠ 0) (h6 : t.val % 7 ≠ 6) :
    Given T m c t ⊢ wp frame (wpE (defs₀ (F := Ideal)) Variants.none c none) Set.univ (bodyAt T t) fun _ => Left T m c t := by
  have k1 := (holds_iff T t).2 hv
  have k2 : ¬_ := fun q => h0 ((first_iff T t).1 q)
  have k3 : ¬k0_cond3 (crd T t) = 1#1 := fun q => h6 ((last_iff T t).1 q)
  have k4 : ¬k0_cond4 (crd T t) (word T.v (crd T t)) = 1#1 := fun q => h6 ((lastEmpty_iff T t).1 q).2
  have f4 : (pcfg0.win (adm T) (4 : Fin 5)).flush t = false := (flush_eq T t).trans (decide_eq_false h6)
  unfold Given Left
  rw [bigSep_W0]
  rewrite [idle_eq, show decide (t.val % 7 = 6) = false from decide_eq_false h6]
  simp only [before0_0, before0_1, before0_2, before0_3, before0_4, after0_0, after0_1, after0_2, after0_3, after0_4, f4, Bool.not_true, Bool.not_false]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi; simp only [Fin.val_castSucc, Fin.val_succ]
  simp only [exists_held (inside_of T t hv h0)]
  iintro ⟨⟨HS0, HS1, HT0, HT1⟩, Ho, ⟨%d0, H0⟩, ⟨%d1, H1⟩, ⟨%d2, H2⟩, ⟨%d3, H3⟩, ⟨%d4, H4⟩⟩
  iapply ((kernelRun0_B c (crd T t) (ms0_0 T t) (hs0_0 T t) (ms0_1 T t) (hs0_1 T t) (ms0_2 T t) (hs0_2 T t) (ms0_3 T t) (hs0_3 T t) (ms0_4 T t) (hs0_4 T t) T.e T.v (iblk T m c (0 : Fin 5) t) (iblk T m c (1 : Fin 5) t) (iblk T m c (2 : Fin 5) t) (iblk T m c (3 : Fin 5) t) _ _ k1 k2 k3 k4).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, H4, HS0, HS1⟩
  isplitl [HS0 HS1 HT0 HT1]
  · isplitl [HS0]
    · iexists _; isplitr; swap
      · iexact HS0
      · ipureintro; intro hn
        rw [kept_succ]; unfold next; rw [if_neg h0]
        exact mid_rows _ _ _ _ _ _ _ _ _ _ _ _ _ _ _ _ _ _ _ _ _ _ _ _
    isplitl [HS1]
    · iexists _; isplitr; swap
      · iexact HS1
      · ipureintro; intro hn
        rw [kept_succ]; unfold next; rw [if_neg h0]
        exact mid_sum _ _ _ _ _ _ _ _ _ _ _ _ _ _ _ _ _ _ _ _ _ _ _ _
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The last point of a tile that holds rows. -/
theorem point_C (c : Dev nD) (t : Fin (cfgT T).N) (hv : Holds T t) (h6 : t.val % 7 = 6) :
    Given T m c t ⊢ wp frame (wpE (defs₀ (F := Ideal)) Variants.none c none) Set.univ (bodyAt T t) fun _ => Left T m c t := by
  have h0 : t.val % 7 ≠ 0 := by omega
  have k1 := (holds_iff T t).2 hv
  have k2 : ¬_ := fun q => h0 ((first_iff T t).1 q)
  have k3 := (last_iff T t).2 h6
  have k4 : ¬k0_cond4 (crd T t) (word T.v (crd T t)) = 1#1 := fun q => ((lastEmpty_iff T t).1 q).1 hv
  unfold Given Left
  rw [bigSep_W0]
  rewrite [idle_eq, show decide (t.val % 7 = 6) = true from decide_eq_true h6]
  simp only [before0_0, before0_1, before0_2, before0_3, before0_4, after0_0, after0_1, after0_2, after0_3, after0_4, Bool.not_true, Bool.not_false]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi; simp only [Fin.val_castSucc, Fin.val_succ]
  simp only [exists_held (inside_of T t hv h0)]
  iintro ⟨⟨HS0, HS1, HT0, HT1⟩, Ho, ⟨%d0, H0⟩, ⟨%d1, H1⟩, ⟨%d2, H2⟩, ⟨%d3, H3⟩, ⟨%d4, H4⟩⟩
  iapply ((kernelRun0_C c (crd T t) (ms0_0 T t) (hs0_0 T t) (ms0_1 T t) (hs0_1 T t) (ms0_2 T t) (hs0_2 T t) (ms0_3 T t) (hs0_3 T t) (ms0_4 T t) (hs0_4 T t) T.e T.v (iblk T m c (0 : Fin 5) t) (iblk T m c (1 : Fin 5) t) (iblk T m c (2 : Fin 5) t) (iblk T m c (3 : Fin 5) t) _ _ k1 k2 k3 k4).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  iintro ⟨H0, H1, H2, H3, HT0, HT1, ⟨%e4, H4⟩, HS0, HS1⟩
  isplitl [HS0 HS1 HT0 HT1]
  · isplitl [HS0]
    · iexists _; isplitr; swap
      · iexact HS0
      · ipureintro; intro hn
        obtain ⟨_, q, _⟩ := hn; omega
    isplitl [HS1]
    · iexists _; isplitr; swap
      · iexact HS1
      · ipureintro; intro hn
        obtain ⟨_, q, _⟩ := hn; omega
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    refine (View.read_writes_of_cover _ _ VO0_4 VO0_4.junk _ (cover0_C_4 c _ _ _ _ _ _ _ _ _ _ _ _ _ _ _ _ _ _ _ _ _ _ _)).trans ?_
    refine (last_out _ _ _ _ _ _ _ _ _ _ _ _ _ _ _ _ _ _ _ _ _ _ _ _).trans ?_
    unfold total; rw [if_pos hv, kept_succ]; unfold next; rw [if_neg h0]

set_option maxHeartbeats 4000000 in
/-- A point, not the last, of a tile that holds none. -/
theorem point_D (c : Dev nD) (t : Fin (cfgT T).N) (hv : ¬Holds T t) (h6 : t.val % 7 ≠ 6) :
    Given T m c t ⊢ wp frame (wpE (defs₀ (F := Ideal)) Variants.none c none) Set.univ (bodyAt T t) fun _ => Left T m c t := by
  have k1 : ¬k0_cond1 (word T.v (crd T t)) = 1#1 := fun q => hv ((holds_iff T t).1 q)
  have k4 : ¬k0_cond4 (crd T t) (word T.v (crd T t)) = 1#1 := fun q => h6 ((lastEmpty_iff T t).1 q).2
  have f4 : (pcfg0.win (adm T) (4 : Fin 5)).flush t = false := (flush_eq T t).trans (decide_eq_false h6)
  unfold Given Left
  rw [bigSep_W0]
  rewrite [idle_eq, show decide (t.val % 7 = 6) = false from decide_eq_false h6]
  simp only [before0_0, before0_1, before0_2, before0_3, before0_4, after0_0, after0_1, after0_2, after0_3, after0_4, f4, Bool.not_true, Bool.not_false]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi; simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
  iapply ((kernelRun0_D c (crd T t) (ms0_0 T t) (hs0_0 T t) (ms0_1 T t) (hs0_1 T t) (ms0_2 T t) (hs0_2 T t) (ms0_3 T t) (hs0_3 T t) (ms0_4 T t) (hs0_4 T t) T.e T.v (iblk T m c (0 : Fin 5) t) (iblk T m c (1 : Fin 5) t) (iblk T m c (2 : Fin 5) t) (iblk T m c (3 : Fin 5) t) a0 a1 k1 k4).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  iintro ⟨H0, H1, H2, H3, HT0, HT1, H4, HS0, HS1⟩
  isplitl [HS0 HS1 HT0 HT1]
  · isplitl [HS0]
    · iexists _; isplitr; swap
      · iexact HS0
      · ipureintro; intro hn
        exact absurd (holds_of_inside_succ T t hn) hv
    isplitl [HS1]
    · iexists _; isplitr; swap
      · iexact HS1
      · ipureintro; intro hn
        exact absurd (holds_of_inside_succ T t hn) hv
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The last point of a tile that holds none. -/
theorem point_E (c : Dev nD) (t : Fin (cfgT T).N) (hv : ¬Holds T t) (h6 : t.val % 7 = 6) :
    Given T m c t ⊢ wp frame (wpE (defs₀ (F := Ideal)) Variants.none c none) Set.univ (bodyAt T t) fun _ => Left T m c t := by
  have k1 : ¬k0_cond1 (word T.v (crd T t)) = 1#1 := fun q => hv ((holds_iff T t).1 q)
  have k4 := (lastEmpty_iff T t).2 ⟨hv, h6⟩
  unfold Given Left
  rw [bigSep_W0]
  rewrite [idle_eq, show decide (t.val % 7 = 6) = true from decide_eq_true h6]
  simp only [before0_0, before0_1, before0_2, before0_3, before0_4, after0_0, after0_1, after0_2, after0_3, after0_4, Bool.not_true, Bool.not_false]
  rewrite [show (dats T m 0 c).Φ t.succ = Phi T m c t.succ from rfl, show (dats T m 0 c).Φ t.castSucc = Phi T m c t.castSucc from rfl,
    show (dats T m 0 c).owesAt () t.succ = (dats T m 0 c).owesAt () t.castSucc from rfl]
  unfold Phi; simp only [Fin.val_castSucc, Fin.val_succ]
  iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
  iapply ((kernelRun0_E c (crd T t) (ms0_0 T t) (hs0_0 T t) (ms0_1 T t) (hs0_1 T t) (ms0_2 T t) (hs0_2 T t) (ms0_3 T t) (hs0_3 T t) (ms0_4 T t) (hs0_4 T t) T.e T.v (iblk T m c (0 : Fin 5) t) (iblk T m c (1 : Fin 5) t) (iblk T m c (2 : Fin 5) t) (iblk T m c (3 : Fin 5) t) a0 a1 k1 k4).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  iintro ⟨H0, H1, H2, H3, HT0, HT1, ⟨%e4, H4⟩, HS0, HS1⟩
  isplitl [HS0 HS1 HT0 HT1]
  · isplitl [HS0]
    · iexists _; isplitr; swap
      · iexact HS0
      · ipureintro; intro hn
        exact absurd (holds_of_inside_succ T t hn) hv
    isplitl [HS1]
    · iexists _; isplitr; swap
      · iexact HS1
      · ipureintro; intro hn
        exact absurd (holds_of_inside_succ T t hn) hv
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    refine (View.read_writes_of_cover _ _ VO0_4 VO0_4.junk _ (cover0_E_4 c _ _ _ _ _ _ _ _ _ _ _ _ _ _ _ _ _ _ _ _ _)).trans ?_
    refine (empty_out _ _ _ _ _ _ _ _ _ _ _ _ _ _ _ _ _ _ _ _ _ _).trans ?_
    unfold total; rw [if_neg hv]

theorem body_point (c : Dev nD) (t : Fin (cfgT T).N) :
    Given T m c t ⊢ wp frame (wpE (defs₀ (F := Ideal)) Variants.none c none) Set.univ (bodyAt T t) fun _ => Left T m c t := by
  by_cases hv : Holds T t
  · by_cases h0 : t.val % 7 = 0
    · exact point_A T m c t hv h0
    · by_cases h6 : t.val % 7 = 6
      · exact point_C T m c t hv h6
      · exact point_B T m c t hv h0 h6
  · by_cases h6 : t.val % 7 = 6
    · exact point_E T m c t hv h6
    · exact point_D T m c t hv h6

/-- The library's body obligation, at every point. -/
theorem body_obligation (c : Dev nD) : BodyObligation (dats T m 0 c) (defs₀ (F := Ideal)) Variants.none () Set.univ := fun t => by
  rw [bigSep_W0]
  exact body_point T m c t

end Cert.ExpertsIdeal.Tab

end
-- ==== Proof.ExpertsLaunch.lean ====
module

public import proofs.«01_k».proof.Proof.ExpertsRun
public import proofs.«01_k».proof.Defs
public import proofs.«01_k».proof.Proof.Gen.Pre_names_an_expert

/-! The experts' kernel launched, over the extended reals: from every memory whose first table names an expert for every tile.

The weights' blocks are chosen by the tables; a tile that holds no rows is given the last slice of its expert. -/

@[expose] public section

set_option maxRecDepth 16384
set_option Elab.async false

noncomputable section

namespace Cert.ExpertsIdeal.Tab

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

/-! ## Which block of the weights a point is given -/

section Blocks

variable (e v : S136.Idx → BitVec 32) (i : grid0.Coords)

theorem at_zero : (both e v).at 0 (Rect.unit (s := S136) (k0_off1 i) S1.size (k0_off1_inb i)) numel1_S1 = e (slotOf i) := by
  show e _ = e _
  congr 1
  funext a
  apply Fin.ext
  match a with
  | ⟨0, _⟩ => exact (show k0_off1 i 0 + 1 * 0 = (i 0).val by rw [off_eq]; rfl)

theorem at_one : (both e v).at 1 (Rect.unit (s := S136) (k0_off1 i) S1.size (k0_off1_inb i)) numel1_S1 = v (slotOf i) := by
  show v _ = v _
  congr 1
  funext a
  apply Fin.ext
  match a with
  | ⟨0, _⟩ => exact (show k0_off1 i 0 + 1 * 0 = (i 0).val by rw [off_eq]; rfl)

/-- The slice of the hidden width: the point's own where the tile holds rows, else the last. -/
def part (w : BitVec 32) (k : Nat) : Nat := if w = 1#32 then k else 6

theorem part_eq (w : BitVec 32) (k : Fin 7) :
    (Scalar.select (Scalar.cmpi .eq w 1#32) (BitVec.ofNat 32 k.val) 6#32).toNat = part w k.val := by
  unfold part
  by_cases h : w = 1#32
  · subst h
    rw [if_pos rfl]
    exact (by decide +kernel : ∀ k : Fin 7,
      (Scalar.select (Scalar.cmpi .eq 1#32 1#32) (BitVec.ofNat 32 k.val) 6#32).toNat = k.val) k
  · rw [if_neg h]
    have : (Scalar.cmpi .eq w 1#32 : BitVec 1) = 0#1 := by
      show BitVec.ofBool (w == 1#32) = 0#1
      rw [beq_false_of_ne h]; rfl
    rw [this]
    rfl

theorem part_sel : part (v (slotOf i)) (i 1).val
    = (Scalar.select (Scalar.cmpi .eq (v (slotOf i)) 1#32) (BitVec.ofNat 32 (i 1).val) 6#32).toNat := (part_eq _ (i 1)).symm

theorem gate_block : cc0_transform_1 k0_off1_inb numel1_S1 (both e v) i = ![(e (slotOf i)).toNat, 0, part (v (slotOf i)) (i 1).val] := by
  rw [part_sel v i, ← at_zero e v i, ← at_one e v i]
  rfl

theorem up_block : cc0_transform_2 k0_off1_inb numel1_S1 (both e v) i = ![(e (slotOf i)).toNat, 0, part (v (slotOf i)) (i 1).val] := by
  rw [part_sel v i, ← at_zero e v i, ← at_one e v i]
  rfl

theorem down_block : cc0_transform_3 k0_off1_inb numel1_S1 (both e v) i = ![(e (slotOf i)).toNat, part (v (slotOf i)) (i 1).val, 0] := by
  rw [part_sel v i, ← at_zero e v i, ← at_one e v i]
  rfl

theorem part_lt (w : BitVec 32) (k : Fin 7) : part w k.val < 7 := by
  unfold part; split
  · exact k.isLt
  · omega

/-- Every block lies inside its array when the first table names one of the eight experts. -/
theorem ok_of (h : ∀ j, (e j).toNat < 8) : ok0 (F := Ideal) (both e v) := by
  refine ⟨fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · rw [gate_block]
    intro a
    have h0 := h (slotOf i)
    have h1 := part_lt (v (slotOf i)) (i 1)
    match a with
    | ⟨0, _⟩ => show ((e (slotOf i)).toNat + 1) * 1 ≤ 8; omega
    | ⟨1, _⟩ => show (0 + 1) * 1024 ≤ 1024; omega
    | ⟨2, _⟩ => show (part (v (slotOf i)) (i 1).val + 1) * 512 ≤ 3584; omega
  · rw [up_block]
    intro a
    have h0 := h (slotOf i)
    have h1 := part_lt (v (slotOf i)) (i 1)
    match a with
    | ⟨0, _⟩ => show ((e (slotOf i)).toNat + 1) * 1 ≤ 8; omega
    | ⟨1, _⟩ => show (0 + 1) * 1024 ≤ 1024; omega
    | ⟨2, _⟩ => show (part (v (slotOf i)) (i 1).val + 1) * 512 ≤ 3584; omega
  · rw [down_block]
    intro a
    have h0 := h (slotOf i)
    have h1 := part_lt (v (slotOf i)) (i 1)
    match a with
    | ⟨0, _⟩ => show ((e (slotOf i)).toNat + 1) * 1 ≤ 8; omega
    | ⟨1, _⟩ => show (part (v (slotOf i)) (i 1).val + 1) * 512 ≤ 3584; omega
    | ⟨2, _⟩ => show (0 + 1) * 1024 ≤ 1024; omega

end Blocks

/-! ## What the precondition says of the tables -/

theorem lt_of_named (x : BitVec 32)
    (h : (BitVec.ofBool ((0#32).sle x) &&& BitVec.ofBool (x.slt 8#32)) = 1#1) : x.toNat < 8 := by
  cases h1 : (0#32).sle x
  · exfalso; rw [h1] at h; revert h; cases x.slt 8#32 <;> decide
  cases h2 : x.slt 8#32
  · exfalso; rw [h1, h2] at h; revert h; decide
  rw [BitVec.sle_eq_decide] at h1
  rw [BitVec.slt_eq_decide] at h2
  have h1 := of_decide_eq_true h1
  have h2 := of_decide_eq_true h2
  rw [show (0#32).toInt = 0 from rfl] at h1
  rw [show (8#32).toInt = 8 from rfl] at h2
  rw [BitVec.toInt_eq_toNat_cond] at h1 h2
  split at h1 <;> omega

variable (m : (ℓ : Loc nD τ sig) → Buf (Elt Ideal) ℓ)

/-- The one device. -/
abbrev dev : Dev nD := ⟨0, by decide⟩

theorem dev_eq (c : Dev nD) : c = dev := by
  match c with
  | ⟨0, _⟩ => rfl

/-- The tables in memory. -/
abbrev memE : S136.Idx → BitVec 32 := m ((dev : Thread nD τ).loc main_arg0)
abbrev memV : S136.Idx → BitVec 32 := m ((dev : Thread nD τ).loc main_arg1)

theorem named (h : Cert.Pre_ExpertsIdeal m) (j : S136.Idx) : (memE m j).toNat < 8 :=
  lt_of_named _ (congrFun (h dev) j)

/-- The tables that the precondition admits. -/
def tables (h : Cert.Pre_ExpertsIdeal m) : Tables := ⟨memE m, memV m, ok_of _ _ (named m h)⟩

/-! ## The launch -/

variable (T : Tables) (ρ : Dev nD → PrngReg)

def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgT T).W) : (dats T m 0 c).share w = fullShare := by unfold Dat.share; split <;> rfl

/-- The two tables, held apart. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- Before the first point nothing is known of the scratches. -/
theorem phi_start (c : Dev nD) :
    iprop(BI.emp ∗ Pipeline.prefHeld pre0 c (fun _ => fullShare.right) (adm T).1 ∗ Pipeline.scopedRest spec0 c) ⊢ (dats T m 0 c).Φ 0 := by
  rw [prefHeld_eq, scopedRest0_eq, show (dats T m 0 c).Φ 0 = Phi T m c 0 from rfl]
  unfold Phi
  iintro ⟨-, ⟨HT0, HT1⟩, ⟨%a0, HS0⟩, ⟨%a1, HS1⟩⟩
  isplitl [HS0]
  · iexists a0; isplitr; swap
    · iexact HS0
    · ipureintro; intro h; obtain ⟨_, q, _⟩ := h; exact absurd rfl q
  isplitl [HS1]
  · iexists a1; isplitr; swap
    · iexact HS1
    · ipureintro; intro h; obtain ⟨_, q, _⟩ := h; exact absurd rfl q
  isplitl [HT0]
  · iexact HT0
  iexact HT1

/-- After the last the scratches are handed back. -/
theorem phi_end (c : Dev nD) : (dats T m 0 c).Φ (Fin.last (cfgT T).N) ⊢ iprop(BI.emp ∗ Pipeline.scopedRest spec0 c) := by
  rw [scopedRest0_eq, show (dats T m 0 c).Φ (Fin.last (cfgT T).N) = Phi T m c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What holds at the end: every window's array as the points leave it, and the tables as they were. -/
def Ends : PUnit × MemSt nD τ sig (Elt Ideal) → Prop := fun r =>
  ∀ c : Dev nD, (∀ w : Fin (cfgT T).W, r.2.mem (((cfgT T).win w).arr.view.loc (c : Thread nD τ)) = (dats T m 0 c).arrAt w (cfgT T).N)
    ∧ ∀ j, r.2.mem ((c : Thread nD τ).loc (pre0.ref j)) = (adm T).1 j

/-- The memory holds the tables `T`. -/
abbrev Held : Prop := (∀ c : Dev nD, m ((c : Thread nD τ).loc main_arg0) = T.e) ∧ ∀ c : Dev nD, m ((c : Thread nD τ).loc main_arg1) = T.v

theorem held_tables (h : Cert.Pre_ExpertsIdeal m) : Held m (tables m h) :=
  ⟨fun c => by rw [dev_eq c]; rfl, fun c => by rw [dev_eq c]; rfl⟩

theorem held_pre (hp : Held m T) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- The call runs to its end from any memory that holds the tables, leaves the arrays as the points do and no semaphore raised. -/
theorem runs (hp : Held m T) :
    θ_run (defs (F := Ideal)) (onTc (τ := τ) (main (F := Ideal))) ⟨m, fun _ => 0, ρ⟩ (fun r => Ends m T r ∧ r.2.sem = fun _ => 0) :=
  Pipeline.θ_run_region_noSem_pf_quiescent pcfgs (fun _ => adm T) (dats T m) () ((launch0 (F := Ideal)).cellOf_inj fun _ => adm T) (0 : Fin 1)
    (launch0 (F := Ideal)).win.to₀ (launch0 (F := Ideal)).pre EP defs₀ Variants.none m ρ main
    (hbody := fun c => (body_obligation T m c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m) 0 (launch0 (F := Ideal)).win.arr_inj c (launch0 (F := Ideal)).arr_whole
      (share_eq m T c) _ _ fun _ => rfl)
    (hpf := held_pre m T hp)
    (X := fun _ => iprop(emp)) (Y := fun _ => iprop(emp)) (Z := fun _ => iprop(emp))
    (hX := fun c => by rw [unscopedRestP0_eq]; iintro -; isplitr <;> iempintro)
    (hin := phi_start m T)
    (hout := phi_end m T)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The six arguments are as they were. -/
abbrev Same (r : PUnit × MemSt nD τ sig (Elt Ideal)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem same_of (hp : Held m T) (r : PUnit × MemSt nD τ sig (Elt Ideal)) (h : Ends m T r) (c : Dev nD) : Same m r c :=
  ⟨((h c).2 0).trans (hp.1 c).symm, ((h c).2 1).trans (hp.2 c).symm,
    ((h c).1 (0 : Fin 5)).trans ((dats T m 0 c).arrAt_in (0 : Fin 5) rfl _),
    ((h c).1 (1 : Fin 5)).trans ((dats T m 0 c).arrAt_in (1 : Fin 5) rfl _),
    ((h c).1 (2 : Fin 5)).trans ((dats T m 0 c).arrAt_in (2 : Fin 5) rfl _),
    ((h c).1 (3 : Fin 5)).trans ((dats T m 0 c).arrAt_in (3 : Fin 5) rfl _)⟩

/-- The call's frame: it ends, with its arguments unchanged and every semaphore down. -/
theorem quiescent : Cert.quiescent_ExpertsIdeal := fun m ρ h =>
  (θ_run defs _ _).mono (fun r q => ⟨same_of m (tables m h) (held_tables m h) r q.1, q.2⟩) (runs m (tables m h) ρ (held_tables m h))

end Cert.ExpertsIdeal.Tab
-- ==== Proof.FfnMath.lean ====
module

public import Idealize.ShloMosaic.Lib.Pointwise
public import Idealize.ShloMosaic.Lib.IdealHost

@[expose] public section

noncomputable section

namespace Cert.Layer

open Idealize.ShloMosaic

/-- One token's normalised and modulated row: `x * rsqrt(mean x² + ε) * w * (1 + scale) + shift`. -/
def normRow (x w sh sc : Fin 1024 → EReal) (d : Fin 1024) : EReal :=
  x d * Ideal.rsqrt (Ideal.div (∑ k, x k * x k) (Ideal.ofBits .f32 0x44800000#32) + Ideal.ofBits .f32 0x358637BD#32)
    * w d * (1 + sc d) + sh d

/-- The gated unit: `silu(g) * u`, with `silu(g) = g / (1 + e^(-g))`. -/
def gated (g u : EReal) : EReal := g * Ideal.div 1 (1 + Ideal.exp (-g)) * u

/-- One entry of the feed-forward part: the residual plus the gate times the down projection of the gated units. -/
def ffnEntry (h : Fin 1024 → EReal) (wg wu : Fin 1024 → Fin 2816 → EReal) (wd : Fin 2816 → EReal) (x g : EReal) : EReal :=
  x + g * ∑ j, gated (∑ k, h k * wg k j) (∑ k, h k * wu k j) * wd j

theorem half_eq : Ideal.ofBits .f32 0x3F000000#32 = (((1 : ℝ) / 2 : ℝ) : EReal) := by
  simp [Ideal.ofBits, Ideal.ieee, -EReal.coe_mul]; norm_num

theorem half_tanh (r : ℝ) : 1 / 2 + 1 / 2 * Real.tanh (1 / 2 * r) = 1 / (1 + Real.exp (-r)) := by
  have e : Real.exp (-r) = (Real.exp (-(1 / 2 * r))) ^ 2 := by rw [← Real.exp_nat_mul]; congr 1; push_cast; ring
  rw [Real.tanh_eq_sinh_div_cosh, Real.sinh_eq, Real.cosh_eq, e, Real.exp_neg]
  have h := Real.exp_pos (1 / 2 * r)
  generalize Real.exp (1 / 2 * r) = a at h ⊢
  field_simp
  ring

/-- The logistic function is the half-angle hyperbolic tangent moved to run from zero to one, at every extended real. -/
theorem logistic_tanh (x : EReal) :
    Ideal.ofBits .f32 0x3F000000#32 + Ideal.ofBits .f32 0x3F000000#32 * Ideal.tanh (Ideal.ofBits .f32 0x3F000000#32 * x)
      = Ideal.div 1 (1 + Ideal.exp (-x)) := by
  rw [half_eq]
  induction x using EReal.rec with
  | bot =>
    have e : (((1 : ℝ) / 2 : ℝ) : EReal) + (((1 : ℝ) / 2 : ℝ) : EReal) * (-1) = 0 := by
      rw [show (-1 : EReal) = ((-1 : ℝ) : EReal) by rw [EReal.coe_neg, EReal.coe_one], ← EReal.coe_mul, ← EReal.coe_add]; norm_num
    have e' : (1 : EReal) + ⊤ = ⊤ := EReal.coe_add_top 1
    rw [EReal.coe_mul_bot_of_pos (by norm_num), Ideal.tanh_bot, e]
    simp [Ideal.div, e']
  | top =>
    have e : (((1 : ℝ) / 2 : ℝ) : EReal) + (((1 : ℝ) / 2 : ℝ) : EReal) * 1 = 1 := by
      rw [mul_one, ← EReal.coe_add]; norm_num
    rw [EReal.coe_mul_top_of_pos (by norm_num), Ideal.tanh_top, e]
    simp [Ideal.div]
  | coe r =>
    have h : (1 + Real.exp (-r)) ≠ 0 := by positivity
    have e : (1 : EReal) + Ideal.exp (-(r : EReal)) = ((1 + Real.exp (-r) : ℝ) : EReal) := by
      show (1 : EReal) + ((Real.exp (-r) : ℝ) : EReal) = _
      norm_cast
    rw [e, Ideal.div, if_neg (by exact_mod_cast h), ← EReal.coe_mul, Ideal.tanh_coe, ← EReal.coe_mul, ← EReal.coe_add, half_tanh,
      one_mul, ← EReal.coe_inv, one_div]

end Cert.Layer

end
-- ==== Proof.ExpertsRef.lean ====
module

public import proofs.«01_k».proof.Proof.Gen.ExpertsRefIdeal.Run
public import Idealize.ShloMosaic.Lib.Pointwise
public import Idealize.ShloMosaic.Lib.IdealHost
public import proofs.«01_k».proof.Proof.FfnMath

/-! The experts' reference, an entry at a time.

Every row is put through all eight experts; of the eight results the one of the row's own expert is taken, and zero
where the row has none. -/

@[expose] public section

set_option maxRecDepth 16384

noncomputable section

namespace Cert.Layer

open Idealize.ShloMosaic

/-- The tile of row `r`: 136 tiles of 1024 rows. -/
def tileOf (r : Fin 139264) : Fin 136 := ⟨r.val / 1024, by omega⟩

/-- A hidden unit's contribution to an entry: gate and up projection of the row, gated, times its down weight. -/
def unitEntry (x g u : Fin 1024 → EReal) (w : EReal) : EReal := gated (∑ k, x k * g k) (∑ k, x k * u k) * w

/-- One entry of an expert's result for a row: the down projection of its gated units. -/
def expertEntry (x : Fin 1024 → EReal) (wg wu : Fin 1024 → Fin 3584 → EReal) (wd : Fin 3584 → EReal) : EReal :=
  ∑ j, unitEntry x (fun k => wg k j) (fun k => wu k j) (wd j)

end Cert.Layer

namespace Cert.ExpertsRefIdeal.Layer

open Cert.ExpertsRefIdeal Cert.ExpertsRefIdeal.Gen Cert.Layer Idealize.ShloMosaic

/-- The expert of every row: its tile's, or -1. -/
def rowExpert (e v : Vec Ideal S136 .i32) : IVec S139264 32 :=
  shapeCast S139264 (broadcastInDim S136x1024 ![0] bcast_S136_S136x1024_0 (select (cmpi .eq v (broadcastInDim S136 ![] bcast_S_S136 (constantI S_ 32 1#32))) e (broadcastInDim S136 ![] bcast_S_S136 (id (constantI S_ 32 4294967295#32))))) shapeCasts_S136x1024_S139264

theorem select_eq {α : Type} (a b : BitVec 32) (x y : α) : Scalar.select (IntOp.cmpi .eq a b) x y = if a = b then x else y := by
  by_cases h : a = b
  · subst h
    rw [if_pos rfl]
    show Scalar.select (BitVec.ofBool (a == a)) x y = x
    rw [beq_self_eq_true]; rfl
  · rw [if_neg h]
    show Scalar.select (BitVec.ofBool (a == b)) x y = y
    rw [beq_false_of_ne h]; rfl

theorem flat_rows {α : Type} (x : S136x1024.Idx → α) (h : S136x1024.ShapeCasts S139264) (r : Fin 139264) :
    shapeCast S139264 x h (ix1 r) = x (ix2 (tileOf r) ⟨r.val % 1024, by omega⟩) := by
  refine congrArg x (Shape.reshapeEquiv_eq_of_vals h _ _ _ _ (rowMajor_val2 _ 1024 rfl) (rowMajor_val1 _) ?_)
  show r.val / 1024 * 1024 + r.val % 1024 = r.val
  omega

theorem rowExpert_apply (e v : Vec Ideal S136 .i32) (r : Fin 139264) :
    rowExpert e v (ix1 r) = if v (ix1 (tileOf r)) = 1#32 then e (ix1 (tileOf r)) else 4294967295#32 := by
  refine (flat_rows _ _ r).trans ?_
  pointwise
  exact select_eq _ _ _ _

/-- Taking a row's own expert's result out of the eight. -/
def pick (R : IVec S139264 32) (D : FVec Ideal S8x139264x1024 .f32) : FVec Ideal S139264x1024 .f32 :=
  Host.reduceAdd (select (broadcastInDim S8x139264x1024 ![0, 1, 2] bcast_S8x139264x1_S8x139264x1024_0_1_2 (cmpi .eq (broadcastInDim S8x139264x1 ![0, 1, 2] bcast_S1x139264x1_S8x139264x1_0_1_2 (broadcastInDim S1x139264x1 ![1] bcast_S139264_S1x139264x1_1 R)) (broadcastInDim S8x139264x1 ![0, 1, 2] bcast_S8x1x1_S8x139264x1_0_1_2 (broadcastInDim S8x1x1 ![0] bcast_S8_S8x1x1_0 (iotaInDim S8 32 0))))) D (broadcastInDim S8x139264x1024 ![] bcast_S_S8x139264x1024 (id (constant S_ .f32 0x00000000#32)))) (constant S_ .f32 0x00000000#32) reducesTo_S8x139264x1024_S139264x1024_d0 h_S_

theorem pick_apply (R : IVec S139264 32) (D : FVec Ideal S8x139264x1024 .f32) (r : Fin 139264) (d : Fin 1024) :
    pick R D (ix2 r d) = ∑ e : Fin 8, if R (ix1 r) = BitVec.ofNat 32 e.val then D (ix3 e r d) else 0 := by
  pointwise [pick]
  refine Finset.sum_congr rfl fun e _ => (select_eq _ _ _ _).trans ?_
  rw [show id (constant (F := Ideal) S_ .f32 0x00000000#32) ix0 = (0 : EReal) by rw [id_eq]; pointwise]

/-- All eight experts on every row. -/
def each (x : FVec Ideal S139264x1024 .f32) (wg wu : FVec Ideal S8x1024x3584 .bf16) (wd : FVec Ideal S8x3584x1024 .bf16) : FVec Ideal S8x139264x1024 .f32 :=
  Host.dotGeneral dot_S139264x8x3584_S8x3584x1024_S8x139264x1024_2_1_0_2_1_0 none (mulf (mulf (Host.dotGeneral dot_S139264x1024_S8x1024x3584_S139264x8x3584_1_1_0_02_n_n none x (extf .f32 wg bitsLt_bf16_f32)) (Host.divf (broadcastInDim S139264x8x3584 ![] bcast_S_S139264x8x3584 (constant S_ .f32 0x3F800000#32)) (addf (broadcastInDim S139264x8x3584 ![] bcast_S_S139264x8x3584 (constant S_ .f32 0x3F800000#32)) (Host.exp (Host.negf (Host.dotGeneral dot_S139264x1024_S8x1024x3584_S139264x8x3584_1_1_0_02_n_n none x (extf .f32 wg bitsLt_bf16_f32))))))) (Host.dotGeneral dot_S139264x1024_S8x1024x3584_S139264x8x3584_1_1_0_02_n_n none x (extf .f32 wu bitsLt_bf16_f32))) (extf .f32 wd bitsLt_bf16_f32)

theorem each_apply (x : FVec Ideal S139264x1024 .f32) (wg wu : FVec Ideal S8x1024x3584 .bf16) (wd : FVec Ideal S8x3584x1024 .bf16)
    (e : Fin 8) (r : Fin 139264) (d : Fin 1024) :
    each x wg wu wd (ix3 e r d)
      = expertEntry (fun k => x (ix2 r k)) (fun k j => wg (ix3 e k j)) (fun k j => wu (ix3 e k j)) (fun j => wd (ix3 e j d)) := by
  pointwise [each]
  rfl

/-- Of eight terms, those of one expert's number: its own. -/
theorem sum_own (w : BitVec 32) (h : w.toNat < 8) (f : Fin 8 → EReal) :
    (∑ e : Fin 8, if w = BitVec.ofNat 32 e.val then f e else 0) = f ⟨w.toNat, h⟩ := by
  rw [Finset.sum_eq_single (⟨w.toNat, h⟩ : Fin 8)]
  · rw [if_pos (by simp)]
  · intro b _ hb
    rw [if_neg]
    intro q
    apply hb
    apply Fin.ext
    show b.val = w.toNat
    rw [q, BitVec.toNat_ofNat]
    have := b.isLt
    omega
  · intro q; exact absurd (Finset.mem_univ _) q

theorem sum_none (f : Fin 8 → EReal) : (∑ e : Fin 8, if 4294967295#32 = BitVec.ofNat 32 e.val then f e else 0) = 0 :=
  Finset.sum_eq_zero fun e _ => if_neg ((by decide : ∀ e : Fin 8, ¬ 4294967295#32 = BitVec.ofNat 32 e.val) e)

/-- The reference's result, where every tile names an expert. -/
theorem ref_apply (e v : Vec Ideal S136 .i32) (he : ∀ i, (e i).toNat < 8)
    (x : FVec Ideal S139264x1024 .f32) (wg wu : FVec Ideal S8x1024x3584 .bf16) (wd : FVec Ideal S8x3584x1024 .bf16)
    (r : Fin 139264) (d : Fin 1024) :
    pick (rowExpert e v) (each x wg wu wd) (ix2 r d)
      = if v (ix1 (tileOf r)) = 1#32 then
          expertEntry (fun k => x (ix2 r k)) (fun k j => wg (ix3 ⟨(e (ix1 (tileOf r))).toNat, he _⟩ k j))
            (fun k j => wu (ix3 ⟨(e (ix1 (tileOf r))).toNat, he _⟩ k j)) (fun j => wd (ix3 ⟨(e (ix1 (tileOf r))).toNat, he _⟩ j d))
        else 0 := by
  rw [pick_apply, rowExpert_apply]
  by_cases h : v (ix1 (tileOf r)) = 1#32
  · rw [if_pos h, if_pos h, sum_own _ (he _)]
    exact each_apply _ _ _ _ _ _ _
  · rw [if_neg h, if_neg h]
    exact sum_none _

end Cert.ExpertsRefIdeal.Layer
-- ==== Proof.Experts.lean ====
module

public import proofs.«01_k».proof.Proof.ExpertsLaunch
public import proofs.«01_k».proof.Proof.ExpertsRef

/-! The experts' kernel computes the experts' reference: a tile of 1024 rows at a time, its expert's hidden units in
seven slices of 512. -/

@[expose] public section

set_option maxRecDepth 16384

noncomputable section

namespace Cert.ExpertsIdeal.Tab

open Cert.ExpertsIdeal Cert.ExpertsIdeal.Gen Cert.Layer
open Idealize.ShloMosaic Idealize.ShloMosaic.TcCoe Idealize.SL.Sem

variable (T : Tables) (m : (ℓ : Loc nD τ sig) → Buf (Elt Ideal) ℓ)

theorem pay1_apply (x : Vec Ideal S1024x1024 .f32) (p : Fin 1024) (k : Fin 1024) : k0_pay1 x (ix2 p k) = x (ix2 p k) := by
  pointwise [k0_pay1]
theorem pay2_apply (p : Fin 1024) (k : Fin 1024) : (k0_pay2 : FVec Ideal S1024x1024 .f32) (ix2 p k) = 0 := by
  pointwise [k0_pay2]
theorem pay4_apply (p : Fin 1024) (k : Fin 1024) : (k0_pay4 : FVec Ideal S1024x1024 .f32) (ix2 p k) = 0 := by
  pointwise [k0_pay4]
/-- A point adds its slice's 512 gated units, projected down. -/
theorem pay3_apply (x : Vec Ideal S1024x1024 .bf16) (wg wu : Vec Ideal S1x1024x512 .bf16) (acc : Vec Ideal S1024x1024 .f32) (wd : Vec Ideal S1x512x1024 .bf16) (p : Fin 1024) (d : Fin 1024) :
    k0_pay3 x wg wu acc wd (ix2 p d) = acc (ix2 p d)
      + ∑ j : Fin 512, gated (∑ k, x (ix2 p k) * wg (ix3 0 k j)) (∑ k, x (ix2 p k) * wu (ix3 0 k j)) * wd (ix3 0 j d) := by
  pointwise [k0_pay3]
  simp only [zero_sub]
  rfl

/-! ## The blocks at a point -/

theorem t_lt (t : Fin (cfgT T).N) : t.val < 952 := lt_of_lt_of_eq t.isLt N_0

/-- Row `p` of point `t`'s tile; hidden unit `j` of its slice; its expert. -/
def row (t : Fin (cfgT T).N) (p : Fin 1024) : Fin 139264 := ⟨1024 * (t.val / 7) + p.val, by have := t_lt T t; omega⟩
def unit (t : Fin (cfgT T).N) (j : Fin 512) : Fin 3584 := ⟨512 * (t.val % 7) + j.val, by omega⟩
def expert (he : ∀ i, (T.e i).toNat < 8) (i : Fin 136) : Fin 8 := ⟨(T.e (ix1 i)).toNat, he _⟩

theorem rows_index : ∀ t : Fin grid0.N, cc0_transform_0 (grid0.coords t) = ![t.val / 7, 0] := by decide +kernel
theorem out_index : ∀ t : Fin grid0.N, cc0_transform_4 (grid0.coords t) = ![t.val / 7, 0] := by decide +kernel

theorem gate_index (t : Fin (cfgT T).N) (hv : Holds T t) : cc0_transform_1 k0_off1_inb numel1_S1 (both T.e T.v) (crd T t)
    = ![(T.e (ix1 (tile t))).toNat, 0, t.val % 7] := by
  rw [gate_block, crd_tile, show T.v (ix1 (tile t)) = 1#32 from hv, crd_1]; rfl
theorem up_index (t : Fin (cfgT T).N) (hv : Holds T t) : cc0_transform_2 k0_off1_inb numel1_S1 (both T.e T.v) (crd T t)
    = ![(T.e (ix1 (tile t))).toNat, 0, t.val % 7] := by
  rw [up_block, crd_tile, show T.v (ix1 (tile t)) = 1#32 from hv, crd_1]; rfl
theorem down_index (t : Fin (cfgT T).N) (hv : Holds T t) : cc0_transform_3 k0_off1_inb numel1_S1 (both T.e T.v) (crd T t)
    = ![(T.e (ix1 (tile t))).toNat, t.val % 7, 0] := by
  rw [down_block, crd_tile, show T.v (ix1 (tile t)) = 1#32 from hv, crd_1]; rfl

theorem blk0 (c : Dev nD) (t : Fin (cfgT T).N) (p k : Fin 1024) :
    iblk T m c (0 : Fin 5) t (ix2 p k) = m ((c : Thread nD τ).loc main_arg2) (ix2 (row T t p) k) := by
  have h := rows_index t
  show m ((c : Thread nD τ).loc main_arg2) ((((cfgT T).win (0 : Fin 5)).blk t).view.emb (ix2 p k)) = _
  congr 1; funext a; apply Fin.ext
  match a with
  | ⟨0, _⟩ => show cc0_transform_0 (grid0.coords t) (0 : Fin 2) * 1024 + 1 * p.val = 1024 * (t.val / 7) + p.val; rw [h]; show t.val / 7 * 1024 + 1 * p.val = _; omega
  | ⟨1, _⟩ => show cc0_transform_0 (grid0.coords t) (1 : Fin 2) * 1024 + 1 * k.val = k.val; rw [h]; show 0 * 1024 + 1 * k.val = _; omega

variable (he : ∀ i, (T.e i).toNat < 8)

theorem blk1 (c : Dev nD) (t : Fin (cfgT T).N) (hv : Holds T t) (k : Fin 1024) (j : Fin 512) :
    iblk T m c (1 : Fin 5) t (ix3 0 k j) = m ((c : Thread nD τ).loc main_arg3) (ix3 (expert T he (tile t)) k (unit T t j)) := by
  have h := gate_index T t hv
  show m ((c : Thread nD τ).loc main_arg3) ((((cfgT T).win (1 : Fin 5)).blk t).view.emb (ix3 0 k j)) = _
  congr 1; funext a; apply Fin.ext
  match a with
  | ⟨0, _⟩ => show cc0_transform_1 k0_off1_inb numel1_S1 (both T.e T.v) (crd T t) (0 : Fin 3) * 1 + 1 * 0 = (T.e (ix1 (tile t))).toNat; rw [h]; show (T.e (ix1 (tile t))).toNat * 1 + 1 * 0 = _; omega
  | ⟨1, _⟩ => show cc0_transform_1 k0_off1_inb numel1_S1 (both T.e T.v) (crd T t) (1 : Fin 3) * 1024 + 1 * k.val = k.val; rw [h]; show 0 * 1024 + 1 * k.val = _; omega
  | ⟨2, _⟩ => show cc0_transform_1 k0_off1_inb numel1_S1 (both T.e T.v) (crd T t) (2 : Fin 3) * 512 + 1 * j.val = 512 * (t.val % 7) + j.val; rw [h]; show t.val % 7 * 512 + 1 * j.val = _; omega

theorem blk2 (c : Dev nD) (t : Fin (cfgT T).N) (hv : Holds T t) (k : Fin 1024) (j : Fin 512) :
    iblk T m c (2 : Fin 5) t (ix3 0 k j) = m ((c : Thread nD τ).loc main_arg4) (ix3 (expert T he (tile t)) k (unit T t j)) := by
  have h := up_index T t hv
  show m ((c : Thread nD τ).loc main_arg4) ((((cfgT T).win (2 : Fin 5)).blk t).view.emb (ix3 0 k j)) = _
  congr 1; funext a; apply Fin.ext
  match a with
  | ⟨0, _⟩ => show cc0_transform_2 k0_off1_inb numel1_S1 (both T.e T.v) (crd T t) (0 : Fin 3) * 1 + 1 * 0 = (T.e (ix1 (tile t))).toNat; rw [h]; show (T.e (ix1 (tile t))).toNat * 1 + 1 * 0 = _; omega
  | ⟨1, _⟩ => show cc0_transform_2 k0_off1_inb numel1_S1 (both T.e T.v) (crd T t) (1 : Fin 3) * 1024 + 1 * k.val = k.val; rw [h]; show 0 * 1024 + 1 * k.val = _; omega
  | ⟨2, _⟩ => show cc0_transform_2 k0_off1_inb numel1_S1 (both T.e T.v) (crd T t) (2 : Fin 3) * 512 + 1 * j.val = 512 * (t.val % 7) + j.val; rw [h]; show t.val % 7 * 512 + 1 * j.val = _; omega

theorem blk3 (c : Dev nD) (t : Fin (cfgT T).N) (hv : Holds T t) (j : Fin 512) (d : Fin 1024) :
    iblk T m c (3 : Fin 5) t (ix3 0 j d) = m ((c : Thread nD τ).loc main_arg5) (ix3 (expert T he (tile t)) (unit T t j) d) := by
  have h := down_index T t hv
  show m ((c : Thread nD τ).loc main_arg5) ((((cfgT T).win (3 : Fin 5)).blk t).view.emb (ix3 0 j d)) = _
  congr 1; funext a; apply Fin.ext
  match a with
  | ⟨0, _⟩ => show cc0_transform_3 k0_off1_inb numel1_S1 (both T.e T.v) (crd T t) (0 : Fin 3) * 1 + 1 * 0 = (T.e (ix1 (tile t))).toNat; rw [h]; show (T.e (ix1 (tile t))).toNat * 1 + 1 * 0 = _; omega
  | ⟨1, _⟩ => show cc0_transform_3 k0_off1_inb numel1_S1 (both T.e T.v) (crd T t) (1 : Fin 3) * 512 + 1 * j.val = 512 * (t.val % 7) + j.val; rw [h]; show t.val % 7 * 512 + 1 * j.val = _; omega
  | ⟨2, _⟩ => show cc0_transform_3 k0_off1_inb numel1_S1 (both T.e T.v) (crd T t) (2 : Fin 3) * 1024 + 1 * d.val = d.val; rw [h]; show 0 * 1024 + 1 * d.val = _; omega

/-! ## The seven points of a tile -/

/-- Hidden unit `j`'s contribution to entry `d` of row `r`, at expert `e`. -/
def term (c : Dev nD) (e : Fin 8) (r : Fin 139264) (d : Fin 1024) (j : Fin 3584) : EReal :=
  unitEntry (fun k => m ((c : Thread nD τ).loc main_arg2) (ix2 r k)) (fun k => m ((c : Thread nD τ).loc main_arg3) (ix3 e k j))
    (fun k => m ((c : Thread nD τ).loc main_arg4) (ix3 e k j)) (m ((c : Thread nD τ).loc main_arg5) (ix3 e j d))

/-- The sum over slice `s`'s units. -/
def slice (f : Fin 3584 → EReal) (s : ℕ) : EReal := ∑ j : Fin 512, f ⟨(512 * s + j.val) % 3584, by omega⟩

theorem slices (f : Fin 3584 → EReal) : ∑ s ∈ Finset.range 7, slice f s = ∑ j, f j := by
  rw [Finset.sum_range]
  have h := (finProdFinEquiv (m := 7) (n := 512)).sum_comp (fun j : Fin (7 * 512) => f j)
  rw [Fintype.sum_prod_type] at h
  refine Eq.trans ?_ h
  refine Finset.sum_congr rfl fun s _ => Finset.sum_congr rfl fun j _ => congrArg f (Fin.ext ?_)
  rw [finProdFinEquiv_apply_val]
  show (512 * s.val + j.val) % 3584 = j.val + 512 * s.val
  omega

theorem add_apply (c : Dev nD) (t : Fin (cfgT T).N) (hv : Holds T t) (x : Vec Ideal S1024x1024 .bf16) (acc : Vec Ideal S1024x1024 .f32)
    (hx : ∀ p k, x (ix2 p k) = m ((c : Thread nD τ).loc main_arg2) (ix2 (row T t p) k)) (p d : Fin 1024) :
    k0_pay3 x (iblk T m c (1 : Fin 5) t) (iblk T m c (2 : Fin 5) t) acc (iblk T m c (3 : Fin 5) t) (ix2 p d)
      = acc (ix2 p d) + slice (term m c (expert T he (tile t)) (row T t p) d) (t.val % 7) := by
  rw [pay3_apply]
  simp only [blk1 T m he c t hv, blk2 T m he c t hv, blk3 T m he c t hv, hx]
  refine congrArg (acc (ix2 p d) + ·) (Finset.sum_congr rfl fun j _ => ?_)
  show term m c (expert T he (tile t)) (row T t p) d (unit T t j) = _
  refine congrArg (term m c _ _ d) (Fin.ext ?_)
  show 512 * (t.val % 7) + j.val = (512 * (t.val % 7) + j.val) % 3584
  omega

/-- Point `s` of tile `i`, and the tile's rows. -/
def pt (i : Fin 136) (s : ℕ) (hs : s < 7) : Fin (cfgT T).N := ⟨7 * i.val + s, lt_of_lt_of_eq (by omega) N_0.symm⟩
def rowAt (i : Fin 136) (p : Fin 1024) : Fin 139264 := ⟨1024 * i.val + p.val, by omega⟩

theorem kept_apply (c : Dev nD) (i : Fin 136) (hv : T.v (ix1 i) = 1#32) : ∀ (s : ℕ) (hs : s < 7),
    (∀ p k, (kept T m c (7 * i.val + s + 1)).1 (ix2 p k) = m ((c : Thread nD τ).loc main_arg2) (ix2 (rowAt i p) k))
    ∧ ∀ p d, (kept T m c (7 * i.val + s + 1)).2 (ix2 p d)
      = ∑ q ∈ Finset.range (s + 1), slice (term m c (expert T he i) (rowAt i p) d) q := by
  intro s
  have key : ∀ hs : s < 7, tile (pt T i s hs) = i ∧ (pt T i s hs).val % 7 = s ∧ ∀ p, row T (pt T i s hs) p = rowAt i p := fun hs =>
    ⟨Fin.ext (by show (7 * i.val + s) / 7 = i.val; omega), by show (7 * i.val + s) % 7 = s; omega,
      fun p => Fin.ext (by show 1024 * ((7 * i.val + s) / 7) + p.val = 1024 * i.val + p.val; omega)⟩
  induction s with
  | zero =>
    intro hs
    obtain ⟨e1, e2, e3⟩ := key hs
    have hh : Holds T (pt T i 0 hs) := by unfold Holds; rw [e1]; exact hv
    have hr : ∀ p k, k0_pay1 (iblk T m c (0 : Fin 5) (pt T i 0 hs)) (ix2 p k) = m ((c : Thread nD τ).loc main_arg2) (ix2 (row T (pt T i 0 hs) p) k) :=
      fun p k => (pay1_apply _ p k).trans (blk0 T m c _ p k)
    rw [show kept T m c (7 * i.val + 0 + 1) = next T m c (pt T i 0 hs) (kept T m c (pt T i 0 hs).val) from kept_succ T m c (pt T i 0 hs)]
    unfold next
    rw [if_pos e2]
    refine ⟨fun p k => (hr p k).trans (by rw [e3]), fun p d => ?_⟩
    refine (add_apply T m he c (pt T i 0 hs) hh _ _ hr p d).trans ?_
    rw [pay2_apply, zero_add, e1, e2, e3, Finset.sum_range_one]
  | succ s ih =>
    intro hs
    obtain ⟨e1, e2, e3⟩ := key hs
    obtain ⟨i1, i2⟩ := ih (fun hs => ⟨Fin.ext (by show (7 * i.val + s) / 7 = i.val; omega), by show (7 * i.val + s) % 7 = s; omega,
      fun p => Fin.ext (by show 1024 * ((7 * i.val + s) / 7) + p.val = 1024 * i.val + p.val; omega)⟩) (by omega)
    have hh : Holds T (pt T i (s + 1) hs) := by unfold Holds; rw [e1]; exact hv
    rw [show kept T m c (7 * i.val + (s + 1) + 1) = next T m c (pt T i (s + 1) hs) (kept T m c (7 * i.val + s + 1)) from kept_succ T m c (pt T i (s + 1) hs)]
    unfold next
    rw [if_neg (by omega)]
    refine ⟨i1, fun p d => ?_⟩
    refine (add_apply T m he c (pt T i (s + 1) hs) hh _ _ (fun p k => (i1 p k).trans (by rw [e3])) p d).trans ?_
    rw [i2, e1, e2, e3, Finset.sum_range_succ _ (s + 1)]

/-- The experts' result, every row. -/
def G (c : Dev nD) : Vec Ideal S139264x1024 .f32 := fun i =>
  if T.v (ix1 (tileOf (i 0))) = 1#32 then
    expertEntry (fun k => m ((c : Thread nD τ).loc main_arg2) (ix2 (i 0) k))
      (fun k j => m ((c : Thread nD τ).loc main_arg3) (ix3 (expert T he (tileOf (i 0))) k j))
      (fun k j => m ((c : Thread nD τ).loc main_arg4) (ix3 (expert T he (tileOf (i 0))) k j))
      (fun j => m ((c : Thread nD τ).loc main_arg5) (ix3 (expert T he (tileOf (i 0))) j (i 1)))
  else 0

theorem total_apply (c : Dev nD) (t : Fin (cfgT T).N) (ht : t.val % 7 = 6) (p d : Fin 1024) :
    total T m c t (ix2 p d) = G T m he c (ix2 (row T t p) d) := by
  have e1 : tileOf (row T t p) = tile t := Fin.ext (by show (1024 * (t.val / 7) + p.val) / 1024 = t.val / 7; omega)
  have e2 : rowAt (tile t) p = row T t p := Fin.ext rfl
  unfold total
  show _ = if T.v (ix1 (tileOf (row T t p))) = 1#32 then expertEntry (fun k => m ((c : Thread nD τ).loc main_arg2) (ix2 (row T t p) k))
      (fun k j => m ((c : Thread nD τ).loc main_arg3) (ix3 (expert T he (tileOf (row T t p))) k j))
      (fun k j => m ((c : Thread nD τ).loc main_arg4) (ix3 (expert T he (tileOf (row T t p))) k j))
      (fun j => m ((c : Thread nD τ).loc main_arg5) (ix3 (expert T he (tileOf (row T t p))) j d)) else 0
  rw [e1]
  by_cases hv : Holds T t
  · rw [if_pos hv, if_pos (show T.v (ix1 (tile t)) = 1#32 from hv)]
    have h := (kept_apply T m he c (tile t) hv 6 (by omega)).2 p d
    rw [show 7 * (tile t).val + 6 + 1 = t.val + 1 from (by show 7 * (t.val / 7) + 6 + 1 = t.val + 1; omega), slices, e2] at h
    exact h
  · rw [if_neg hv, if_neg (show ¬T.v (ix1 (tile t)) = 1#32 from hv)]
    exact pay4_apply p d

theorem flushed_eq (c : Dev nD) (t : Fin (cfgT T).N) (hf : ((cfgT T).win (4 : Fin 5)).flush t = true) :
    (dats T m 0 c).flushed (4 : Fin 5) t = (((cfgT T).win (4 : Fin 5)).blk t).view.read (Elt Ideal) (G T m he c) := by
  have ht : t.val % 7 = 6 := of_decide_eq_true ((flush_eq T t).symm.trans hf)
  have h := out_index t
  show ((cfgT T).win (4 : Fin 5)).cut (grid0.coords t) ((dats T m 0 c).after (4 : Fin 5) t) = _
  rw [after0_4]
  funext j
  idx_vars j
  have e : (((cfgT T).win (4 : Fin 5)).blk t).view.emb (ix2 j0 j1) = ix2 (row T t j0) j1 := by
    funext a; apply Fin.ext
    match a with
    | ⟨0, _⟩ => show cc0_transform_4 (grid0.coords t) (0 : Fin 2) * 1024 + 1 * j0.val = 1024 * (t.val / 7) + j0.val; rw [h]; show t.val / 7 * 1024 + 1 * j0.val = _; omega
    | ⟨1, _⟩ => show cc0_transform_4 (grid0.coords t) (1 : Fin 2) * 1024 + 1 * j1.val = j1.val; rw [h]; show 0 * 1024 + 1 * j1.val = _; omega
  show total T m c t (ix2 j0 j1) = G T m he c ((((cfgT T).win (4 : Fin 5)).blk t).view.emb (ix2 j0 j1))
  rw [e]
  exact total_apply T m he c t ht j0 j1

/-- Every entry lies in the block left at the last point of its tile. -/
theorem covered (i : S139264x1024.Idx) : ∃ t : Fin (cfgT T).N, ((cfgT T).win (4 : Fin 5)).flush t = true ∧ i ∈ (((cfgT T).win (4 : Fin 5)).blk t).view.set := by
  have h0 : (i 0).val < 139264 := (i 0).isLt
  have h1 : (i 1).val < 1024 := (i 1).isLt
  let t : Fin (cfgT T).N := pt T ⟨(i 0).val / 1024, by omega⟩ 6 (by omega)
  have ht : t.val = 7 * ((i 0).val / 1024) + 6 := rfl
  refine ⟨t, (flush_eq T t).trans (decide_eq_true (by omega)), ?_⟩
  have e := out_index t
  show i ∈ ((View.whole main_v0).slice (((cfgT T).win (4 : Fin 5)).rect t)).set
  rw [View.set_slice_whole, Rect.mem_set_unit]
  intro a
  match a with
  | ⟨0, _⟩ =>
    show cc0_transform_4 (grid0.coords t) (0 : Fin 2) * 1024 ≤ (i 0).val ∧ (i 0).val < cc0_transform_4 (grid0.coords t) (0 : Fin 2) * 1024 + 1024
    rw [e]
    show t.val / 7 * 1024 ≤ (i 0).val ∧ (i 0).val < t.val / 7 * 1024 + 1024
    omega
  | ⟨1, _⟩ =>
    show cc0_transform_4 (grid0.coords t) (1 : Fin 2) * 1024 ≤ (i 1).val ∧ (i 1).val < cc0_transform_4 (grid0.coords t) (1 : Fin 2) * 1024 + 1024
    rw [e]
    show 0 * 1024 ≤ (i 1).val ∧ (i 1).val < 0 * 1024 + 1024
    omega

theorem final (c : Dev nD) : (dats T m 0 c).arrAt (4 : Fin 5) (cfgT T).N = G T m he c :=
  (dats T m 0 c).arrAt_eq_of_cover (4 : Fin 5) _ (fun t hf => flushed_eq T m he c t hf) (covered T)

end Cert.ExpertsIdeal.Tab

namespace Cert.Layer

open Idealize.ShloMosaic Idealize.ShloMosaic.TcCoe Idealize.SL.Sem

theorem experts_algebraic : Cert.algebraic_ExpertsIdeal_ExpertsRefIdeal (hExpertsIdeal := Cert.ExpertsIdeal.Gen.facts)
    (hExpertsRefIdeal := Cert.ExpertsRefIdeal.Gen.facts) (hPre_names_an_expert := Cert.Pre_names_an_expert.Gen.facts) := by
  intro m g m' g' hpre hagree
  refine ⟨fun c => ExpertsIdeal.Tab.G (ExpertsIdeal.Tab.tables m hpre) m (ExpertsIdeal.Tab.named m hpre) c, ?_, ?_⟩
  · refine (θ_run _ _ _).mono (fun r h c => ?_) (ExpertsIdeal.Tab.runs m (ExpertsIdeal.Tab.tables m hpre) g (ExpertsIdeal.Tab.held_tables m hpre))
    refine ⟨?_, ExpertsIdeal.Tab.same_of m _ (ExpertsIdeal.Tab.held_tables m hpre) r h.1 c⟩
    exact ((h.1 c).1 (4 : Fin 5)).trans (ExpertsIdeal.Tab.final _ m _ c)
  · refine (θ_run _ _ _).mono (fun r h c => ?_) (ExpertsRefIdeal.Value.run m' g')
    obtain ⟨e0, e1, e2, e3, e4, e5⟩ := hagree c
    refine ⟨?_, (h c).2⟩
    refine (h c).1.trans ?_
    rw [e0, e1, e2, e3, e4, e5]
    obtain rfl := ExpertsIdeal.Tab.dev_eq c
    funext i
    idx_vars i
    exact ExpertsRefIdeal.Layer.ref_apply _ _ (ExpertsIdeal.Tab.named m hpre) _ _ _ _ i0 i1

end Cert.Layer
-- ==== Proof.Common.lean ====
module

public import Idealize.ShloMosaic.Lib.Pointwise

@[expose] public section

namespace Cert.Layer

open Idealize.ShloMosaic

/-- The batch and the position of token `r`, of 16 sequences of 4096 tokens laid end to end. -/
def batch (r : Fin 65536) : Fin 16 := ⟨r.val / 4096, by omega⟩
def pos (r : Fin 65536) : Fin 4096 := ⟨r.val % 4096, by omega⟩

/-- Laying the sequences end to end: the row of token `r` is the row of its batch at its position. -/
theorem flat_apply {n : Nat} {α : Type} (x : (⟨3, ![16, 4096, n]⟩ : Shape).Idx → α)
    (h : (⟨3, ![16, 4096, n]⟩ : Shape).ShapeCasts ⟨2, ![65536, n]⟩) (r : Fin 65536) (d : Fin n) :
    shapeCast ⟨2, ![65536, n]⟩ x h (ix2 r d) = x (ix3 (batch r) (pos r) d) := by
  refine congrArg x (Shape.reshapeEquiv_eq_of_vals h _ _ _ _ (rowMajor_val3 _ (4096 * n) n rfl rfl) (rowMajor_val2 _ n rfl) ?_)
  show r.val / 4096 * (4096 * n) + r.val % 4096 * n + d.val = r.val * n + d.val
  have e : r.val = 4096 * (r.val / 4096) + r.val % 4096 := (Nat.div_add_mod _ _).symm
  generalize r.val / 4096 = q at e ⊢
  generalize r.val % 4096 = s at e ⊢
  rw [e]; ring

end Cert.Layer

end
-- ==== Proof.Out.lean ====
module

public import proofs.«01_k».proof.Proof.Gen.OutprojIdeal.Value
public import proofs.«01_k».proof.Proof.Gen.OutprojRefIdeal.Run
public import proofs.«01_k».proof.Proof.Common
public import proofs.«01_k».proof.Defs

@[expose] public section

set_option maxRecDepth 16384

noncomputable section

namespace Cert.OutprojIdeal.Layer

open Cert.OutprojIdeal Cert.OutprojIdeal.Gen Cert.Layer Idealize.ShloMosaic Idealize.ShloMosaic.TcCoe Idealize.SL.Sem

/-- One entry of the output projection: the residual plus the gate times the product of the
    concatenated head groups with the projection matrix, the two groups' halves apart. -/
def entry (odn ogm : Fin 512 → EReal) (w : Fin 1024 → EReal) (x g : EReal) : EReal :=
  x + g * ((∑ k : Fin 512, odn k * w ⟨k.val, by omega⟩) + ∑ k : Fin 512, ogm k * w ⟨512 + k.val, by omega⟩)

variable (m : (ℓ : Loc nD τ sig) → Buf (Elt Ideal) ℓ)

theorem V_v0 (c : Dev nD) : V m c main_v0 = shapeCast S65536x1024 (m ((c : Thread nD τ).loc main_arg3)) shapeCasts_S16x4096x1024_S65536x1024 := by
  show StableHlo.after hostOps0 _ _ = _; simp only [hostOps0]; after_results <;> rfl
theorem V_v1 (c : Dev nD) : V m c main_v1 = shapeCast S65536x512 (m ((c : Thread nD τ).loc main_arg0)) shapeCasts_S16x4096x512_S65536x512 := by
  show StableHlo.after hostOps0 _ _ = _; simp only [hostOps0]; after_results <;> rfl
theorem V_v2 (c : Dev nD) : V m c main_v2 = shapeCast S65536x512 (m ((c : Thread nD τ).loc main_arg1)) shapeCasts_S16x4096x512_S65536x512 := by
  show StableHlo.after hostOps0 _ _ = _; simp only [hostOps0]; after_results <;> rfl
theorem V_v3 (c : Dev nD) : V m c main_v3 = (truncf .bf16 (m ((c : Thread nD τ).loc main_arg2) : Vec Ideal S1024x1024 .f32) bitsLt_bf16_f32 : FVec Ideal S1024x1024 .bf16) := by
  show StableHlo.after hostOps0 _ _ = _; simp only [hostOps0]; after_results <;> rfl
theorem V_v4 (c : Dev nD) : V m c main_v4 = broadcastInDim S16x1x1024 ![0, 2] bcast_S16x1024_S16x1x1024_0_2 (m ((c : Thread nD τ).loc main_arg4) : Vec Ideal S16x1024 .f32) := by
  show StableHlo.after hostOps0 _ _ = _; simp only [hostOps0]; after_results <;> rfl

theorem at_v0 (c : Dev nD) (r : Fin 65536) (d : Fin 1024) : V m c main_v0 (ix2 r d)
    = m ((c : Thread nD τ).loc main_arg3) (ix3 (batch r) (pos r) d) := by
  rw [V_v0]; exact flat_apply _ _ _ _
theorem at_v1 (c : Dev nD) (r : Fin 65536) (d : Fin 512) : V m c main_v1 (ix2 r d)
    = m ((c : Thread nD τ).loc main_arg0) (ix3 (batch r) (pos r) d) := by
  rw [V_v1]; exact flat_apply _ _ _ _
theorem at_v2 (c : Dev nD) (r : Fin 65536) (d : Fin 512) : V m c main_v2 (ix2 r d)
    = m ((c : Thread nD τ).loc main_arg1) (ix3 (batch r) (pos r) d) := by
  rw [V_v2]; exact flat_apply _ _ _ _
theorem at_v3 (c : Dev nD) (k d : Fin 1024) : V m c main_v3 (ix2 k d)
    = m ((c : Thread nD τ).loc main_arg2) (ix2 k d) := by
  rw [V_v3]; pointwise
theorem at_v4 (c : Dev nD) (b : Fin 16) (d : Fin 1024) : V m c main_v4 (ix3 b 0 d)
    = m ((c : Thread nD τ).loc main_arg4) (ix2 b d) := by
  rw [V_v4]; pointwise

/-- Which block each window stages at point `t`: the row blocks are `t`'s, the gate's is `t / 4`'s. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 3) = t.val / 4 ∧ win0_4.index t (1 : Fin 3) = 0 ∧ win0_4.index t (2 : Fin 3) = 0)
    ∧ (win0_5.index t (0 : Fin 2) = t.val ∧ win0_5.index t (1 : Fin 2) = 0) :=
  (by decide +kernel : ∀ t : Fin grid0.N, _)

theorem t_lt (t : Fin cfg0.N) : t.val < 64 := lt_of_lt_of_eq t.isLt N_0

/-- The token at row `p` of point `t`'s block. -/
def row (t : Fin cfg0.N) (p : Fin 1024) : Fin 65536 := ⟨1024 * t.val + p.val, by have := t_lt t; omega⟩

theorem blk0 (c : Dev nD) (t : Fin cfg0.N) (p : Fin 1024) (k : Fin 512) :
    iblk m c 0 t (ix2 p k) = m ((c : Thread nD τ).loc main_arg0) (ix3 (batch (row t p)) (pos (row t p)) k) := by
  obtain ⟨⟨h, h'⟩, -⟩ := idx_facts t
  show V m c main_v1 (((cfg0.win 0).blk t).view.emb (ix2 p k)) = _
  refine Eq.trans ?_ (at_v1 m c (row t p) k)
  congr 1; funext a; apply Fin.ext
  match a with
  | ⟨0, _⟩ => show win0_0.index t (0 : Fin 2) * 1024 + 1 * p.val = 1024 * t.val + p.val; rw [h]; omega
  | ⟨1, _⟩ => show win0_0.index t (1 : Fin 2) * 512 + 1 * k.val = k.val; rw [h']; omega

theorem hz2 : (![0, 0] : Fin 2 → Nat) = fun _ => 0 := funext fun a => by fin_cases a <;> rfl
theorem hz3 : (![0, 0, 0] : Fin 3 → Nat) = fun _ => 0 := funext fun a => by fin_cases a <;> rfl

theorem out_apply (x0 x1 : Vec Ideal S1024x512 .bf16) (x2 : Vec Ideal S1024x1024 .bf16) (x3 : Vec Ideal S1024x1024 .f32) (x4 : Vec Ideal S1x1x1024 .f32)
    (p d : Fin 1024) : out0_5 x0 x1 x2 x3 x4 (ix2 p d)
      = entry (fun k => x0 (ix2 p k)) (fun k => x1 (ix2 p k)) (fun k => x2 (ix2 k d)) (x3 (ix2 p d)) (x4 (ix3 0 0 d)) := by
  unfold out0_5
  rw [View.canon_unit_zero hz2]
  pointwise [k0_pay1, entry]

theorem blk1 (c : Dev nD) (t : Fin cfg0.N) (p : Fin 1024) (k : Fin 512) :
    iblk m c 1 t (ix2 p k) = m ((c : Thread nD τ).loc main_arg1) (ix3 (batch (row t p)) (pos (row t p)) k) := by
  obtain ⟨-, ⟨h, h'⟩, -⟩ := idx_facts t
  show V m c main_v2 (((cfg0.win 1).blk t).view.emb (ix2 p k)) = _
  refine Eq.trans ?_ (at_v2 m c (row t p) k)
  congr 1; funext a; apply Fin.ext
  match a with
  | ⟨0, _⟩ => show win0_1.index t (0 : Fin 2) * 1024 + 1 * p.val = 1024 * t.val + p.val; rw [h]; omega
  | ⟨1, _⟩ => show win0_1.index t (1 : Fin 2) * 512 + 1 * k.val = k.val; rw [h']; omega

theorem blk2 (c : Dev nD) (t : Fin cfg0.N) (k d : Fin 1024) :
    iblk m c 2 t (ix2 k d) = m ((c : Thread nD τ).loc main_arg2) (ix2 k d) := by
  obtain ⟨-, -, ⟨h, h'⟩, -⟩ := idx_facts t
  show V m c main_v3 (((cfg0.win 2).blk t).view.emb (ix2 k d)) = _
  refine Eq.trans ?_ (at_v3 m c k d)
  congr 1; funext a; apply Fin.ext
  match a with
  | ⟨0, _⟩ => show win0_2.index t (0 : Fin 2) * 1024 + 1 * k.val = k.val; rw [h]; omega
  | ⟨1, _⟩ => show win0_2.index t (1 : Fin 2) * 1024 + 1 * d.val = d.val; rw [h']; omega

theorem blk3 (c : Dev nD) (t : Fin cfg0.N) (p d : Fin 1024) :
    iblk m c 3 t (ix2 p d) = m ((c : Thread nD τ).loc main_arg3) (ix3 (batch (row t p)) (pos (row t p)) d) := by
  obtain ⟨-, -, -, ⟨h, h'⟩, -⟩ := idx_facts t
  show V m c main_v0 (((cfg0.win 3).blk t).view.emb (ix2 p d)) = _
  refine Eq.trans ?_ (at_v0 m c (row t p) d)
  congr 1; funext a; apply Fin.ext
  match a with
  | ⟨0, _⟩ => show win0_3.index t (0 : Fin 2) * 1024 + 1 * p.val = 1024 * t.val + p.val; rw [h]; omega
  | ⟨1, _⟩ => show win0_3.index t (1 : Fin 2) * 1024 + 1 * d.val = d.val; rw [h']; omega

theorem blk4 (c : Dev nD) (t : Fin cfg0.N) (p d : Fin 1024) :
    iblk m c 4 t (ix3 0 0 d) = m ((c : Thread nD τ).loc main_arg4) (ix2 (batch (row t p)) d) := by
  obtain ⟨-, -, -, -, ⟨h, h', h''⟩, -⟩ := idx_facts t
  show V m c main_v4 (((cfg0.win 4).blk t).view.emb (ix3 0 0 d)) = _
  refine Eq.trans ?_ (at_v4 m c (batch (row t p)) d)
  congr 1; funext a; apply Fin.ext
  match a with
  | ⟨0, _⟩ => show win0_4.index t (0 : Fin 3) * 1 + 1 * 0 = (1024 * t.val + p.val) / 4096; rw [h]; omega
  | ⟨1, _⟩ => show win0_4.index t (1 : Fin 3) * 1 + 1 * 0 = 0; rw [h']
  | ⟨2, _⟩ => show win0_4.index t (2 : Fin 3) * 1024 + 1 * d.val = d.val; rw [h'']; omega

/-- The layer's result, every token's row: `x + g1 * (concat(o_dn, o_gm) @ w_out)`. -/
def G (a0 a1 : Vec Ideal S16x4096x512 .bf16) (a2 : Vec Ideal S1024x1024 .f32) (a3 : Vec Ideal S16x4096x1024 .f32)
    (a4 : Vec Ideal S16x1024 .f32) : Vec Ideal S65536x1024 .f32 := fun i =>
  entry (fun k => a0 (ix3 (batch (i 0)) (pos (i 0)) k)) (fun k => a1 (ix3 (batch (i 0)) (pos (i 0)) k)) (fun k => a2 (ix2 k (i 1)))
    (a3 (ix3 (batch (i 0)) (pos (i 0)) (i 1))) (a4 (ix2 (batch (i 0)) (i 1)))

def GG (c : Dev nD) : Vec Ideal S65536x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 5 t = ((cfg0.win 5).blk t).view.read (Elt Ideal) (GG m c) := by
  rw [Value.flushed5]
  funext j
  idx_vars j
  have ht := t_lt t
  obtain ⟨-, -, -, -, -, h, h'⟩ := idx_facts t
  have he : ((cfg0.win 5).blk t).view.emb (ix2 j0 j1) = ix2 (row t j0) j1 := by
    funext a; apply Fin.ext
    match a with
    | ⟨0, _⟩ => show win0_5.index t (0 : Fin 2) * 1024 + 1 * j0.val = 1024 * t.val + j0.val; rw [h]; omega
    | ⟨1, _⟩ => show win0_5.index t (1 : Fin 2) * 1024 + 1 * j1.val = j1.val; rw [h']; omega
  show out0_5 (iblk m c 0 t) (iblk m c 1 t) (iblk m c 2 t) (iblk m c 3 t) (iblk m c 4 t) (ix2 j0 j1)
    = GG m c (((cfg0.win 5).blk t).view.emb (ix2 j0 j1))
  rw [he, out_apply]
  simp only [blk0, blk1, blk2, blk3, blk4 m c t j0]
  rfl

/-- An index of the result is in point `t`'s block iff each coordinate is in the block's range on its axis. -/
theorem mem_blk (t : Fin cfg0.N) (i : S65536x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v5).slice (win0_5.rect t)).set ↔ _
  rw [View.set_slice_whole, Rect.mem_set_unit]
  exact Iff.rfl

theorem cover (i : S65536x1024.Idx) : ∃ t : Fin cfg0.N, (cfg0.win 5).flush t = true ∧ i ∈ ((cfg0.win 5).blk t).view.set := by
  have h0 : (i 0).val < 65536 := (i 0).isLt
  have h1 : (i 1).val < 1024 := (i 1).isLt
  refine ⟨⟨(i 0).val / 1024, by show _ < grid0.N; rw [N_0]; omega⟩, flush0_5 _, ?_⟩
  obtain ⟨-, -, -, -, -, h, h'⟩ := idx_facts ⟨(i 0).val / 1024, by show _ < grid0.N; rw [N_0]; omega⟩
  rw [mem_blk]
  intro a
  match a with
  | ⟨0, _⟩ => show win0_5.index _ (0 : Fin 2) * 1024 ≤ (i 0).val ∧ (i 0).val < win0_5.index _ (0 : Fin 2) * 1024 + 1024; rw [h]; dsimp only; omega
  | ⟨1, _⟩ => show win0_5.index _ (1 : Fin 2) * 1024 ≤ (i 1).val ∧ (i 1).val < win0_5.index _ (1 : Fin 2) * 1024 + 1024; rw [h']; omega

theorem final (c : Dev nD) : (dats m 0 c).arrAt 5 cfg0.N = GG m c :=
  (dats m 0 c).arrAt_eq_of_cover 5 _ (fun t _ => flushed_eq m c t) cover

end Cert.OutprojIdeal.Layer

namespace Cert.Layer

open Idealize.ShloMosaic Idealize.ShloMosaic.TcCoe Idealize.SL.Sem

theorem out_algebraic : Cert.algebraic_OutprojIdeal_OutprojRefIdeal (hOutprojIdeal := Cert.OutprojIdeal.Gen.facts) (hOutprojRefIdeal := Cert.OutprojRefIdeal.Gen.facts) := by
  intro m g m' g' _ hagree
  refine ⟨fun c => OutprojIdeal.Layer.GG m c, ?_, ?_⟩
  · refine (θ_run _ _ _).mono (fun r h c => ?_) (OutprojIdeal.Value.run_blocks m g)
    refine ⟨?_, (h c).2⟩
    rw [(h c).1]; exact OutprojIdeal.Layer.final m c
  · refine (θ_run _ _ _).mono (fun r h c => ?_) (OutprojRefIdeal.Value.run m' g')
    obtain ⟨e0, e1, e2, e3, e4⟩ := hagree c
    refine ⟨?_, (h c).2⟩
    rw [(h c).1, e0, e1, e2, e3, e4]
    funext i
    idx_vars i
    refine (flat_apply _ _ i0 i1).trans ?_
    pointwise [OutprojIdeal.Layer.GG, OutprojIdeal.Layer.G, OutprojIdeal.Layer.entry]

end Cert.Layer

end
-- ==== Proof.Ffn.lean ====
module

public import proofs.«01_k».proof.Proof.Gen.FfnIdeal.Value
public import proofs.«01_k».proof.Proof.Gen.FfnRefIdeal.Run
public import Idealize.ShloMosaic.Lib.Pipeline.ValueKit
public import proofs.«01_k».proof.Proof.Common
public import proofs.«01_k».proof.Proof.FfnMath
public import proofs.«01_k».proof.Defs

@[expose] public section

set_option maxRecDepth 16384

noncomputable section

namespace Cert.FfnIdeal.Layer

open Cert.FfnIdeal Cert.FfnIdeal.Gen Cert.Layer Idealize.ShloMosaic Idealize.ShloMosaic.TcCoe Idealize.SL.Sem

variable (m : (ℓ : Loc nD τ sig) → Buf (Elt Ideal) ℓ)

/-- At a tile's first point the scratch that holds the normalised rows ends holding them. -/
theorem rows_A (c : Dev nD) (t : Fin cfg0.N) (h0 : t.val % 11 = 0) (h1 : ¬t.val % 11 = 10) :
    (outsAt0 m c t.val t.isLt).2.1 = k0_pay1 (iblk m c 0 t) (iblk m c 1 t) (iblk m c 2 t) (iblk m c 3 t) := by
  rw [outsAt0_A m c t h0 h1]
  frame_out

/-- There the accumulator ends holding zero plus the first slice's product. -/
theorem acc_A (c : Dev nD) (t : Fin cfg0.N) (h0 : t.val % 11 = 0) (h1 : ¬t.val % 11 = 10) :
    (outsAt0 m c t.val t.isLt).2.2 = k0_pay3 (k0_pay1 (iblk m c 0 t) (iblk m c 1 t) (iblk m c 2 t) (iblk m c 3 t))
      (iblk m c 5 t) (iblk m c 6 t) (k0_pay2 : FVec Ideal S1024x1024 .f32) (iblk m c 7 t) := by
  rw [outsAt0_A m c t h0 h1]
  frame_out

/-- At a point between the rows are kept, -/
theorem rows_B (c : Dev nD) (t : Fin cfg0.N) (h0 : ¬t.val % 11 = 0) (h1 : ¬t.val % 11 = 10) :
    (outsAt0 m c t.val t.isLt).2.1 = (outsAt0 m c (t.val - 1) (Nat.lt_of_le_of_lt (Nat.sub_le _ _) t.isLt)).2.1 := by
  rw [outsAt0_B m c t h0 h1]
  rfl

/-- and the slice's product is added. -/
theorem acc_B (c : Dev nD) (t : Fin cfg0.N) (h0 : ¬t.val % 11 = 0) (h1 : ¬t.val % 11 = 10) :
    (outsAt0 m c t.val t.isLt).2.2
      = k0_pay3 (outsAt0 m c (t.val - 1) (Nat.lt_of_le_of_lt (Nat.sub_le _ _) t.isLt)).2.1 (iblk m c 5 t) (iblk m c 6 t)
        (outsAt0 m c (t.val - 1) (Nat.lt_of_le_of_lt (Nat.sub_le _ _) t.isLt)).2.2 (iblk m c 7 t) := by
  rw [outsAt0_B m c t h0 h1]
  frame_out
  congr 1
  · exact (Memref.isWhole_whole _).read_unread _
  · exact (Memref.isWhole_whole _).read_unread _

/-- At a tile's last point the block written back is the residual plus the gated total. -/
theorem out_C (c : Dev nD) (t : Fin cfg0.N) (h0 : ¬t.val % 11 = 0) (h1 : t.val % 11 = 10) :
    (outsAt0 m c t.val t.isLt).1 = k0_pay4 (iblk m c 0 t) (iblk m c 4 t)
      (k0_pay3 (outsAt0 m c (t.val - 1) (Nat.lt_of_le_of_lt (Nat.sub_le _ _) t.isLt)).2.1 (iblk m c 5 t) (iblk m c 6 t)
        (outsAt0 m c (t.val - 1) (Nat.lt_of_le_of_lt (Nat.sub_le _ _) t.isLt)).2.2 (iblk m c 7 t)) := by
  rw [outsAt0_C m c t h0 h1]
  frame_out
  congr 2
  · exact (Memref.isWhole_whole _).read_unread _
  · exact (Memref.isWhole_whole _).read_unread _

theorem pay1_apply (x : Vec Ideal S1024x1024 .f32) (w : Vec Ideal S1x1024 .f32) (sh sc : Vec Ideal S1x1x1024 .f32) (p : Fin 1024) (d : Fin 1024) :
    k0_pay1 x w sh sc (ix2 p d)
      = normRow (fun k => x (ix2 p k)) (fun k => w (ix2 0 k)) (fun k => sh (ix3 0 0 k)) (fun k => sc (ix3 0 0 k)) d := by
  pointwise [k0_pay1, normRow]

theorem pay3_apply (h : Vec Ideal S1024x1024 .bf16) (wg wu : Vec Ideal S1024x256 .bf16) (acc : Vec Ideal S1024x1024 .f32) (wd : Vec Ideal S256x1024 .bf16) (p : Fin 1024) (d : Fin 1024) :
    k0_pay3 h wg wu acc wd (ix2 p d)
      = acc (ix2 p d) + ∑ j : Fin 256, gated (∑ k, h (ix2 p k) * wg (ix2 k j)) (∑ k, h (ix2 p k) * wu (ix2 k j)) * wd (ix2 j d) := by
  pointwise [k0_pay3]
  simp only [zero_sub]
  rfl

theorem pay2_apply (p : Fin 1024) (d : Fin 1024) : (k0_pay2 : FVec Ideal S1024x1024 .f32) (ix2 p d) = 0 := by
  pointwise [k0_pay2]

theorem pay4_apply (x : Vec Ideal S1024x1024 .f32) (g : Vec Ideal S1x1x1024 .f32) (f : Vec Ideal S1024x1024 .f32) (p : Fin 1024) (d : Fin 1024) :
    k0_pay4 x g f (ix2 p d) = x (ix2 p d) + g (ix3 0 0 d) * f (ix2 p d) := by
  pointwise [k0_pay4]

theorem V_v0 (c : Dev nD) : V m c main_v0 = shapeCast S65536x1024 (m ((c : Thread nD τ).loc main_arg0)) shapeCasts_S16x4096x1024_S65536x1024 := by
  show StableHlo.after hostOps0 _ _ = _; simp only [hostOps0]; after_results <;> rfl
theorem V_v1 (c : Dev nD) : V m c main_v1 = broadcastInDim S1x1024 ![1] bcast_S1024_S1x1024_1 (m ((c : Thread nD τ).loc main_arg1) : Vec Ideal S1024 .f32) := by
  show StableHlo.after hostOps0 _ _ = _; simp only [hostOps0]; after_results <;> rfl
theorem V_v2 (c : Dev nD) : V m c main_v2 = broadcastInDim S16x1x1024 ![0, 2] bcast_S16x1024_S16x1x1024_0_2 (m ((c : Thread nD τ).loc main_arg2) : Vec Ideal S16x1024 .f32) := by
  show StableHlo.after hostOps0 _ _ = _; simp only [hostOps0]; after_results <;> rfl
theorem V_v3 (c : Dev nD) : V m c main_v3 = broadcastInDim S16x1x1024 ![0, 2] bcast_S16x1024_S16x1x1024_0_2 (m ((c : Thread nD τ).loc main_arg3) : Vec Ideal S16x1024 .f32) := by
  show StableHlo.after hostOps0 _ _ = _; simp only [hostOps0]; after_results <;> rfl
theorem V_v4 (c : Dev nD) : V m c main_v4 = broadcastInDim S16x1x1024 ![0, 2] bcast_S16x1024_S16x1x1024_0_2 (m ((c : Thread nD τ).loc main_arg4) : Vec Ideal S16x1024 .f32) := by
  show StableHlo.after hostOps0 _ _ = _; simp only [hostOps0]; after_results <;> rfl
theorem V_v5 (c : Dev nD) : V m c main_v5 = (truncf .bf16 (m ((c : Thread nD τ).loc main_arg5) : Vec Ideal S1024x2816 .f32) bitsLt_bf16_f32 : FVec Ideal S1024x2816 .bf16) := by
  show StableHlo.after hostOps0 _ _ = _; simp only [hostOps0]; after_results <;> rfl
theorem V_v6 (c : Dev nD) : V m c main_v6 = (truncf .bf16 (m ((c : Thread nD τ).loc main_arg6) : Vec Ideal S1024x2816 .f32) bitsLt_bf16_f32 : FVec Ideal S1024x2816 .bf16) := by
  show StableHlo.after hostOps0 _ _ = _; simp only [hostOps0]; after_results <;> rfl
theorem V_v7 (c : Dev nD) : V m c main_v7 = (truncf .bf16 (m ((c : Thread nD τ).loc main_arg7) : Vec Ideal S2816x1024 .f32) bitsLt_bf16_f32 : FVec Ideal S2816x1024 .bf16) := by
  show StableHlo.after hostOps0 _ _ = _; simp only [hostOps0]; after_results <;> rfl

theorem at_v0 (c : Dev nD) (r : Fin 65536) (d : Fin 1024) : V m c main_v0 (ix2 r d)
    = m ((c : Thread nD τ).loc main_arg0) (ix3 (batch r) (pos r) d) := by
  rw [V_v0]; exact flat_apply _ _ _ _
theorem at_v1 (c : Dev nD) (d : Fin 1024) : V m c main_v1 (ix2 0 d) = m ((c : Thread nD τ).loc main_arg1) (ix1 d) := by
  rw [V_v1]; pointwise
theorem at_v2 (c : Dev nD) (b : Fin 16) (d : Fin 1024) : V m c main_v2 (ix3 b 0 d) = m ((c : Thread nD τ).loc main_arg2) (ix2 b d) := by
  rw [V_v2]; pointwise
theorem at_v3 (c : Dev nD) (b : Fin 16) (d : Fin 1024) : V m c main_v3 (ix3 b 0 d) = m ((c : Thread nD τ).loc main_arg3) (ix2 b d) := by
  rw [V_v3]; pointwise
theorem at_v4 (c : Dev nD) (b : Fin 16) (d : Fin 1024) : V m c main_v4 (ix3 b 0 d) = m ((c : Thread nD τ).loc main_arg4) (ix2 b d) := by
  rw [V_v4]; pointwise
theorem at_v5 (c : Dev nD) (k : Fin 1024) (j : Fin 2816) : V m c main_v5 (ix2 k j) = m ((c : Thread nD τ).loc main_arg5) (ix2 k j) := by
  rw [V_v5]; pointwise
theorem at_v6 (c : Dev nD) (k : Fin 1024) (j : Fin 2816) : V m c main_v6 (ix2 k j) = m ((c : Thread nD τ).loc main_arg6) (ix2 k j) := by
  rw [V_v6]; pointwise
theorem at_v7 (c : Dev nD) (k : Fin 2816) (j : Fin 1024) : V m c main_v7 (ix2 k j) = m ((c : Thread nD τ).loc main_arg7) (ix2 k j) := by
  rw [V_v7]; pointwise

/-- Which block each window takes at a point: rows by the point's tile, weights by its slice. -/
theorem idx_facts : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 3) = t.val / 44 ∧ win0_2.index t (1 : Fin 3) = 0 ∧ win0_2.index t (2 : Fin 3) = 0)
    ∧ (win0_3.index t (0 : Fin 3) = t.val / 44 ∧ win0_3.index t (1 : Fin 3) = 0 ∧ win0_3.index t (2 : Fin 3) = 0)
    ∧ (win0_4.index t (0 : Fin 3) = t.val / 44 ∧ win0_4.index t (1 : Fin 3) = 0 ∧ win0_4.index t (2 : Fin 3) = 0)
    ∧ (win0_5.index t (0 : Fin 2) = 0 ∧ win0_5.index t (1 : Fin 2) = t.val % 11)
    ∧ (win0_6.index t (0 : Fin 2) = 0 ∧ win0_6.index t (1 : Fin 2) = t.val % 11)
    ∧ (win0_7.index t (0 : Fin 2) = t.val % 11 ∧ win0_7.index t (1 : Fin 2) = 0)
    ∧ (win0_8.index t (0 : Fin 2) = t.val / 11 ∧ win0_8.index t (1 : Fin 2) = 0) :=
  (by decide +kernel : ∀ t : Fin grid0.N, _)

theorem t_lt (t : Fin cfg0.N) : t.val < 704 := lt_of_lt_of_eq t.isLt N_0

/-- The token at row `p` of point `t`'s tile, and hidden unit `j` of its slice. -/
def row (t : Fin cfg0.N) (p : Fin 1024) : Fin 65536 := ⟨1024 * (t.val / 11) + p.val, by have := t_lt t; omega⟩
def unit (t : Fin cfg0.N) (j : Fin 256) : Fin 2816 := ⟨256 * (t.val % 11) + j.val, by omega⟩

theorem blk0 (c : Dev nD) (t : Fin cfg0.N) (p : Fin 1024) (d : Fin 1024) :
    iblk m c 0 t (ix2 p d) = m ((c : Thread nD τ).loc main_arg0) (ix3 (batch (row t p)) (pos (row t p)) d) := by
  obtain ⟨⟨h, h'⟩, -⟩ := idx_facts t
  show V m c main_v0 (((cfg0.win 0).blk t).view.emb (ix2 p d)) = _
  refine Eq.trans ?_ (at_v0 m c (row t p) d)
  congr 1; funext a; apply Fin.ext
  match a with
  | ⟨0, _⟩ => show win0_0.index t (0 : Fin 2) * 1024 + 1 * p.val = 1024 * (t.val / 11) + p.val; rw [h]; omega
  | ⟨1, _⟩ => show win0_0.index t (1 : Fin 2) * 1024 + 1 * d.val = d.val; rw [h']; omega

theorem blk1 (c : Dev nD) (t : Fin cfg0.N) (d : Fin 1024) :
    iblk m c 1 t (ix2 0 d) = m ((c : Thread nD τ).loc main_arg1) (ix1 d) := by
  obtain ⟨-, ⟨h, h'⟩, -⟩ := idx_facts t
  show V m c main_v1 (((cfg0.win 1).blk t).view.emb (ix2 0 d)) = _
  refine Eq.trans ?_ (at_v1 m c d)
  congr 1; funext a; apply Fin.ext
  match a with
  | ⟨0, _⟩ => show win0_1.index t (0 : Fin 2) * 1 + 1 * 0 = 0; rw [h]
  | ⟨1, _⟩ => show win0_1.index t (1 : Fin 2) * 1024 + 1 * d.val = d.val; rw [h']; omega

theorem blk2 (c : Dev nD) (t : Fin cfg0.N) (p : Fin 1024) (d : Fin 1024) :
    iblk m c 2 t (ix3 0 0 d) = m ((c : Thread nD τ).loc main_arg2) (ix2 (batch (row t p)) d) := by
  obtain ⟨-, -, ⟨h, h', h''⟩, -⟩ := idx_facts t
  show V m c main_v2 (((cfg0.win 2).blk t).view.emb (ix3 0 0 d)) = _
  refine Eq.trans ?_ (at_v2 m c (batch (row t p)) d)
  congr 1; funext a; apply Fin.ext
  match a with
  | ⟨0, _⟩ => show win0_2.index t (0 : Fin 3) * 1 + 1 * 0 = (1024 * (t.val / 11) + p.val) / 4096; rw [h]; omega
  | ⟨1, _⟩ => show win0_2.index t (1 : Fin 3) * 1 + 1 * 0 = 0; rw [h']
  | ⟨2, _⟩ => show win0_2.index t (2 : Fin 3) * 1024 + 1 * d.val = d.val; rw [h'']; omega

theorem blk3 (c : Dev nD) (t : Fin cfg0.N) (p : Fin 1024) (d : Fin 1024) :
    iblk m c 3 t (ix3 0 0 d) = m ((c : Thread nD τ).loc main_arg3) (ix2 (batch (row t p)) d) := by
  obtain ⟨-, -, -, ⟨h, h', h''⟩, -⟩ := idx_facts t
  show V m c main_v3 (((cfg0.win 3).blk t).view.emb (ix3 0 0 d)) = _
  refine Eq.trans ?_ (at_v3 m c (batch (row t p)) d)
  congr 1; funext a; apply Fin.ext
  match a with
  | ⟨0, _⟩ => show win0_3.index t (0 : Fin 3) * 1 + 1 * 0 = (1024 * (t.val / 11) + p.val) / 4096; rw [h]; omega
  | ⟨1, _⟩ => show win0_3.index t (1 : Fin 3) * 1 + 1 * 0 = 0; rw [h']
  | ⟨2, _⟩ => show win0_3.index t (2 : Fin 3) * 1024 + 1 * d.val = d.val; rw [h'']; omega

theorem blk4 (c : Dev nD) (t : Fin cfg0.N) (p : Fin 1024) (d : Fin 1024) :
    iblk m c 4 t (ix3 0 0 d) = m ((c : Thread nD τ).loc main_arg4) (ix2 (batch (row t p)) d) := by
  obtain ⟨-, -, -, -, ⟨h, h', h''⟩, -⟩ := idx_facts t
  show V m c main_v4 (((cfg0.win 4).blk t).view.emb (ix3 0 0 d)) = _
  refine Eq.trans ?_ (at_v4 m c (batch (row t p)) d)
  congr 1; funext a; apply Fin.ext
  match a with
  | ⟨0, _⟩ => show win0_4.index t (0 : Fin 3) * 1 + 1 * 0 = (1024 * (t.val / 11) + p.val) / 4096; rw [h]; omega
  | ⟨1, _⟩ => show win0_4.index t (1 : Fin 3) * 1 + 1 * 0 = 0; rw [h']
  | ⟨2, _⟩ => show win0_4.index t (2 : Fin 3) * 1024 + 1 * d.val = d.val; rw [h'']; omega

theorem blk5 (c : Dev nD) (t : Fin cfg0.N) (k : Fin 1024) (j : Fin 256) :
    iblk m c 5 t (ix2 k j) = m ((c : Thread nD τ).loc main_arg5) (ix2 k (unit t j)) := by
  obtain ⟨-, -, -, -, -, ⟨h, h'⟩, -⟩ := idx_facts t
  show V m c main_v5 (((cfg0.win 5).blk t).view.emb (ix2 k j)) = _
  refine Eq.trans ?_ (at_v5 m c k (unit t j))
  congr 1; funext a; apply Fin.ext
  match a with
  | ⟨0, _⟩ => show win0_5.index t (0 : Fin 2) * 1024 + 1 * k.val = k.val; rw [h]; omega
  | ⟨1, _⟩ => show win0_5.index t (1 : Fin 2) * 256 + 1 * j.val = 256 * (t.val % 11) + j.val; rw [h']; omega

theorem blk6 (c : Dev nD) (t : Fin cfg0.N) (k : Fin 1024) (j : Fin 256) :
    iblk m c 6 t (ix2 k j) = m ((c : Thread nD τ).loc main_arg6) (ix2 k (unit t j)) := by
  obtain ⟨-, -, -, -, -, -, ⟨h, h'⟩, -⟩ := idx_facts t
  show V m c main_v6 (((cfg0.win 6).blk t).view.emb (ix2 k j)) = _
  refine Eq.trans ?_ (at_v6 m c k (unit t j))
  congr 1; funext a; apply Fin.ext
  match a with
  | ⟨0, _⟩ => show win0_6.index t (0 : Fin 2) * 1024 + 1 * k.val = k.val; rw [h]; omega
  | ⟨1, _⟩ => show win0_6.index t (1 : Fin 2) * 256 + 1 * j.val = 256 * (t.val % 11) + j.val; rw [h']; omega

theorem blk7 (c : Dev nD) (t : Fin cfg0.N) (j : Fin 256) (d : Fin 1024) :
    iblk m c 7 t (ix2 j d) = m ((c : Thread nD τ).loc main_arg7) (ix2 (unit t j) d) := by
  obtain ⟨-, -, -, -, -, -, -, ⟨h, h'⟩, -⟩ := idx_facts t
  show V m c main_v7 (((cfg0.win 7).blk t).view.emb (ix2 j d)) = _
  refine Eq.trans ?_ (at_v7 m c (unit t j) d)
  congr 1; funext a; apply Fin.ext
  match a with
  | ⟨0, _⟩ => show win0_7.index t (0 : Fin 2) * 256 + 1 * j.val = 256 * (t.val % 11) + j.val; rw [h]; omega
  | ⟨1, _⟩ => show win0_7.index t (1 : Fin 2) * 1024 + 1 * d.val = d.val; rw [h']; omega

/-- The normalised and modulated row of token `r`. -/
def normed (c : Dev nD) (r : Fin 65536) : Fin 1024 → EReal :=
  normRow (fun k => m ((c : Thread nD τ).loc main_arg0) (ix3 (batch r) (pos r) k)) (fun k => m ((c : Thread nD τ).loc main_arg1) (ix1 k))
    (fun k => m ((c : Thread nD τ).loc main_arg2) (ix2 (batch r) k)) (fun k => m ((c : Thread nD τ).loc main_arg3) (ix2 (batch r) k))

/-- Hidden unit `j`'s contribution to entry `d` of token `r`'s down projection. -/
def term (c : Dev nD) (r : Fin 65536) (d : Fin 1024) (j : Fin 2816) : EReal :=
  gated (∑ k, normed m c r k * m ((c : Thread nD τ).loc main_arg5) (ix2 k j)) (∑ k, normed m c r k * m ((c : Thread nD τ).loc main_arg6) (ix2 k j))
    * m ((c : Thread nD τ).loc main_arg7) (ix2 j d)

/-- The layer's feed-forward part, every token's row. -/
def G (c : Dev nD) : Vec Ideal S65536x1024 .f32 := fun i =>
  ffnEntry (normed m c (i 0)) (fun k j => m ((c : Thread nD τ).loc main_arg5) (ix2 k j)) (fun k j => m ((c : Thread nD τ).loc main_arg6) (ix2 k j))
    (fun j => m ((c : Thread nD τ).loc main_arg7) (ix2 j (i 1))) (m ((c : Thread nD τ).loc main_arg0) (ix3 (batch (i 0)) (pos (i 0)) (i 1)))
    (m ((c : Thread nD τ).loc main_arg4) (ix2 (batch (i 0)) (i 1)))

/-- The scratch rows a tile's first point writes are the normalised rows of its tokens. -/
theorem rows_apply (c : Dev nD) (t : Fin cfg0.N) (p : Fin 1024) (d : Fin 1024) :
    k0_pay1 (iblk m c 0 t) (iblk m c 1 t) (iblk m c 2 t) (iblk m c 3 t) (ix2 p d) = normed m c (row t p) d := by
  rw [pay1_apply]
  simp only [blk0, blk1, blk2 m c t p, blk3 m c t p]
  rfl

/-- The sum over slice `s`'s 256 units, and over all eleven slices. -/
def slice (f : Fin 2816 → EReal) (s : ℕ) : EReal := ∑ j : Fin 256, f ⟨(256 * s + j.val) % 2816, by omega⟩

theorem slices (f : Fin 2816 → EReal) : ∑ s ∈ Finset.range 11, slice f s = ∑ j, f j := by
  rw [Finset.sum_range]
  have h := (finProdFinEquiv (m := 11) (n := 256)).sum_comp (fun j : Fin (11 * 256) => f j)
  rw [Fintype.sum_prod_type] at h
  refine Eq.trans ?_ h
  refine Finset.sum_congr rfl fun s _ => Finset.sum_congr rfl fun j _ => congrArg f (Fin.ext ?_)
  rw [finProdFinEquiv_apply_val]
  show (256 * s.val + j.val) % 2816 = j.val + 256 * s.val
  omega

/-- What a point adds to the accumulator: its slice of the hidden units. -/
theorem add_apply (c : Dev nD) (t : Fin cfg0.N) (h : Vec Ideal S1024x1024 .bf16) (acc : Vec Ideal S1024x1024 .f32) (p : Fin 1024) (d : Fin 1024)
    (hh : ∀ k, h (ix2 p k) = normed m c (row t p) k) :
    k0_pay3 h (iblk m c 5 t) (iblk m c 6 t) acc (iblk m c 7 t) (ix2 p d)
      = acc (ix2 p d) + slice (term m c (row t p) d) (t.val % 11) := by
  rw [pay3_apply]
  simp only [blk5, blk6, blk7, hh]
  refine congrArg (acc (ix2 p d) + ·) (Finset.sum_congr rfl fun j _ => ?_)
  show term m c (row t p) d (unit t j) = _
  refine congrArg (term m c (row t p) d) (Fin.ext ?_)
  show 256 * (t.val % 11) + j.val = (256 * (t.val % 11) + j.val) % 2816
  omega

/-- After slice `s < 10` of a tile: the rows, and the first slices' sums. -/
theorem kept_apply (c : Dev nD) (i : ℕ) : ∀ (s : ℕ) (hs : s < 10) (t : Fin cfg0.N) (_ : t.val = 11 * i + s),
    (∀ p k, (outsAt0 m c t.val t.isLt).2.1 (ix2 p k) = normed m c (row t p) k)
    ∧ ∀ p d, (outsAt0 m c t.val t.isLt).2.2 (ix2 p d) = ∑ q ∈ Finset.range (s + 1), slice (term m c (row t p) d) q := by
  intro s
  induction s with
  | zero =>
    intro _ t ht
    have h0 : t.val % 11 = 0 := by omega
    rw [rows_A m c t h0 (by omega), acc_A m c t h0 (by omega)]
    refine ⟨rows_apply m c t, fun p d => ?_⟩
    rw [add_apply m c t _ _ p d (fun k => rows_apply m c t p k), pay2_apply, zero_add, h0, Finset.sum_range_one]
  | succ s ih =>
    intro hs t ht
    have hb : t.val - 1 < cfg0.N := Nat.lt_of_le_of_lt (Nat.sub_le _ _) t.isLt
    obtain ⟨i1, i2⟩ := ih (by omega) ⟨t.val - 1, hb⟩ (by show t.val - 1 = _; omega)
    have hr : ∀ p, row ⟨t.val - 1, hb⟩ p = row t p := fun p =>
      Fin.ext (by show 1024 * ((t.val - 1) / 11) + p.val = 1024 * (t.val / 11) + p.val; omega)
    rw [rows_B m c t (by omega) (by omega), acc_B m c t (by omega) (by omega)]
    have hk : ∀ p k, (outsAt0 m c (t.val - 1) hb).2.1 (ix2 p k) = normed m c (row t p) k := fun p k => (i1 p k).trans (by rw [hr])
    refine ⟨hk, fun p d => ?_⟩
    rw [add_apply m c t _ _ p d (hk p), show (outsAt0 m c (t.val - 1) hb).2.2 (ix2 p d) = _ from i2 p d, hr,
      show t.val % 11 = s + 1 by omega, Finset.sum_range_succ _ (s + 1)]

theorem out_apply (c : Dev nD) (t : Fin cfg0.N) (h1 : t.val % 11 = 10) (p : Fin 1024) (d : Fin 1024) :
    (outsAt0 m c t.val t.isLt).1 (ix2 p d) = G m c (ix2 (row t p) d) := by
  have hb : t.val - 1 < cfg0.N := Nat.lt_of_le_of_lt (Nat.sub_le _ _) t.isLt
  obtain ⟨i1, i2⟩ := kept_apply m c (t.val / 11) 9 (by omega) ⟨t.val - 1, hb⟩ (by show t.val - 1 = _; omega)
  have hr : ∀ p, row ⟨t.val - 1, hb⟩ p = row t p := fun p =>
    Fin.ext (by show 1024 * ((t.val - 1) / 11) + p.val = 1024 * (t.val / 11) + p.val; omega)
  have hk : ∀ p k, (outsAt0 m c (t.val - 1) hb).2.1 (ix2 p k) = normed m c (row t p) k := fun p k => (i1 p k).trans (by rw [hr])
  rw [out_C m c t (by omega) h1, pay4_apply, add_apply m c t _ _ p d (hk p), blk0, blk4 m c t p,
    show (outsAt0 m c (t.val - 1) hb).2.2 (ix2 p d) = _ from i2 p d, hr, h1, ← Finset.sum_range_succ _ 10, slices]
  rfl

theorem flushed_eq (c : Dev nD) (t : Fin cfg0.N) (hf : (cfg0.win 8).flush t = true) :
    (dats m 0 c).flushed 8 t = ((cfg0.win 8).blk t).view.read (Elt Ideal) (G m c) := by
  rw [Value.flushed8]
  funext j
  idx_vars j
  obtain ⟨-, -, -, -, -, -, -, -, h, h'⟩ := idx_facts t
  have he : ((cfg0.win 8).blk t).view.emb (ix2 j0 j1) = ix2 (row t j0) j1 := by
    funext a; apply Fin.ext
    match a with
    | ⟨0, _⟩ => show win0_8.index t (0 : Fin 2) * 1024 + 1 * j0.val = 1024 * (t.val / 11) + j0.val; rw [h]; omega
    | ⟨1, _⟩ => show win0_8.index t (1 : Fin 2) * 1024 + 1 * j1.val = j1.val; rw [h']; omega
  show (outsAt0 m c t.val t.isLt).1 (ix2 j0 j1) = G m c (((cfg0.win 8).blk t).view.emb (ix2 j0 j1))
  rw [he]
  exact out_apply m c t ((flush0_8 t).mp hf) j0 j1

theorem final (c : Dev nD) : (dats m 0 c).arrAt 8 cfg0.N = G m c :=
  (dats m 0 c).arrAt_eq_of_cover 8 _ (fun t hf => flushed_eq m c t hf) (fun i => (Value.covered_iff8 i).2 (by
    have h0 : (i 0).val < 65536 := (i 0).isLt; have h1 : (i 1).val < 1024 := (i 1).isLt; omega))

end Cert.FfnIdeal.Layer

namespace Cert.FfnRefIdeal.Layer
open Cert.FfnRefIdeal Cert.FfnRefIdeal.Gen Cert.FfnRefIdeal.Value Cert.Layer Idealize.ShloMosaic Idealize.ShloMosaic.TcCoe Idealize.SL.Sem

/-- The reference's result, an entry at a time. -/
theorem ref_apply (m : (ℓ : Loc nD τ sig) → Buf (Elt Ideal) ℓ) (c : Dev nD) (r : Fin 65536) (d : Fin 1024) :
    res_main_v30 m c (ix2 r d)
      = ffnEntry (normRow (fun k => m ((c : Thread nD τ).loc main_arg0) (ix3 (batch r) (pos r) k)) (fun k => m ((c : Thread nD τ).loc main_arg1) (ix1 k))
          (fun k => m ((c : Thread nD τ).loc main_arg2) (ix2 (batch r) k)) (fun k => m ((c : Thread nD τ).loc main_arg3) (ix2 (batch r) k)))
        (fun k j => m ((c : Thread nD τ).loc main_arg5) (ix2 k j)) (fun k j => m ((c : Thread nD τ).loc main_arg6) (ix2 k j))
        (fun j => m ((c : Thread nD τ).loc main_arg7) (ix2 j d)) (m ((c : Thread nD τ).loc main_arg0) (ix3 (batch r) (pos r) d))
        (m ((c : Thread nD τ).loc main_arg4) (ix2 (batch r) d)) := by
  refine (flat_apply _ _ r d).trans ?_
  pointwise
  rfl

end Cert.FfnRefIdeal.Layer

namespace Cert.Layer

open Idealize.ShloMosaic Idealize.ShloMosaic.TcCoe Idealize.SL.Sem

theorem ffn_algebraic : Cert.algebraic_FfnIdeal_FfnRefIdeal (hFfnIdeal := Cert.FfnIdeal.Gen.facts) (hFfnRefIdeal := Cert.FfnRefIdeal.Gen.facts) := by
  intro m g m' g' _ hagree
  refine ⟨fun c => FfnIdeal.Layer.G m c, ?_, ?_⟩
  · refine (θ_run _ _ _).mono (fun r h c => ?_) (FfnIdeal.Value.run_blocks m g)
    refine ⟨?_, (h c).2⟩
    rw [(h c).1]; exact FfnIdeal.Layer.final m c
  · refine (θ_run _ _ _).mono (fun r h c => ?_) (FfnRefIdeal.Value.run m' g')
    obtain ⟨e0, e1, e2, e3, e4, e5, e6, e7⟩ := hagree c
    refine ⟨?_, (h c).2⟩
    refine (h c).1.trans ?_
    funext i
    idx_vars i
    refine (FfnRefIdeal.Layer.ref_apply m' c i0 i1).trans ?_
    rw [e0, e1, e2, e3, e4, e5, e6, e7]
    rfl

end Cert.Layer
end
-- ==== Proof.InprojPay.lean ====
module

public import proofs.«01_k».proof.Proof.Gen.InprojIdeal.Skeleton
public import proofs.«01_k».proof.Proof.FfnMath
public import Idealize.ShloMosaic.Lib.Pointwise

@[expose] public section

set_option maxRecDepth 16384

noncomputable section

namespace Cert.Layer

open Idealize.ShloMosaic

/-- `x / (1 + e^(-x))`. -/
def siluOf (x : EReal) : EReal := x * Ideal.div 1 (1 + Ideal.exp (-x))

/-- `x / 2 * (1 + tanh (√(2/π) (x + 0.044715 x³)))`. -/
def geluOf (x : EReal) : EReal :=
  Ideal.ofBits .f32 0x3F000000#32 * x
    * (1 + Ideal.tanh (Ideal.ofBits .f32 0x3F4C422A#32 * (x + Ideal.ofBits .f32 0x3D372713#32 * (x * x * x))))

/-- The mean of 512 numbers. -/
def meanOf (f : Fin 512 → EReal) : EReal := Ideal.div (∑ k, f k) (Ideal.ofBits .f32 0x44000000#32)

/-- One entry of a row's layer norm. -/
def lnOf (f w b : Fin 512 → EReal) (d : Fin 512) : EReal :=
  (f d - meanOf f) * Ideal.rsqrt (meanOf (fun k => (f k - meanOf f) * (f k - meanOf f)) + Ideal.ofBits .f32 0x358637BD#32) * w d + b d

/-- The number where position `s` isn't after position `t`, and zero where it is. -/
def upTo (t s : Fin 128) (x : EReal) : EReal :=
  Scalar.select (Scalar.select (IntOp.cmpi .sge (IntOp.addi (BitVec.ofNat 32 t.val) 0#32) (BitVec.ofNat 32 s.val)) 1#1 0#1) x 0

/-- The chunk of 128 positions that token `r` lies in, and its position there; the group of unit `d`, and its place. -/
def chunk (r : Fin 65536) : Fin 32 := ⟨r.val % 4096 / 128, by omega⟩
def inChunk (r : Fin 65536) : Fin 128 := ⟨r.val % 128, by omega⟩
def group (d : Fin 512) : Fin 4 := ⟨d.val / 128, by omega⟩
def inGroup (d : Fin 512) : Fin 128 := ⟨d.val % 128, by omega⟩
/-- Position `s` of chunk `n`, and unit `e` of group `g`. -/
def posOf (n : Fin 32) (s : Fin 128) : Fin 4096 := ⟨128 * n.val + s.val, by omega⟩
def unitOf (g : Fin 4) (e : Fin 128) : Fin 512 := ⟨128 * g.val + e.val, by omega⟩

/-- One entry of the gated spatial mix: the unit's `u` part through the gate, times the group's mix of the chunk's
    normalised rows `v` with weights `w`, plus the bias. -/
def mixOf (u : EReal) (w v : Fin 128 → EReal) (b : EReal) : EReal := geluOf u * ((∑ s, w s * v s) + b)

end Cert.Layer

namespace Cert.InprojIdeal.Layer

open Cert.InprojIdeal Cert.InprojIdeal.Gen Cert.Layer Idealize.ShloMosaic

theorem rows_at (x : Vec Ideal S512x1024 .f32) (w : Vec Ideal S1x1024 .f32) (sh sc : Vec Ideal S1x1x1024 .f32) (p : Fin 512) (d : Fin 1024) :
    k0_pay2 x w sh sc (ix2 p d)
      = normRow (fun k => x (ix2 p k)) (fun k => w (ix2 0 k)) (fun k => sh (ix3 0 0 k)) (fun k => sc (ix3 0 0 k)) d := by
  pointwise [k0_pay2, normRow]

theorem zs_at (h : FVec Ideal S512x1024 .bf16) (w : Vec Ideal S1024x512 .bf16) (p d : Fin 512) :
    k0_pay61 (k0_pay59 h w) (k0_pay60 h w) (ix2 p d) = siluOf (∑ k : Fin 1024, h (ix2 p k) * w (ix2 k d)) := by
  pointwise [k0_pay61, k0_pay60, k0_pay59, siluOf]
  simp only [zero_sub]

theorem gu_at (h : FVec Ideal S512x1024 .bf16) (w : Vec Ideal S1024x512 .bf16) (p d : Fin 512) :
    k0_pay62 h w (ix2 p d) = geluOf (∑ k : Fin 1024, h (ix2 p k) * w (ix2 k d)) := by
  pointwise [k0_pay62, geluOf]

theorem gv_at (h : FVec Ideal S512x1024 .bf16) (w : Vec Ideal S1024x512 .bf16) (p d : Fin 512) :
    k0_pay63 h w (ix2 p d) = geluOf (∑ k : Fin 1024, h (ix2 p k) * w (ix2 k d)) := by
  pointwise [k0_pay63, geluOf]

theorem sum_at (h : FVec Ideal S512x1024 .bf16) (w : Vec Ideal S1024x512 .bf16) (p : Fin 512) :
    k0_pay64 h w (ix2 p 0) = ∑ k, k0_pay63 h w (ix2 p k) := by
  generalize e : k0_pay63 h w = f
  show shapeCast S512x1 (multiReduction .add [1] S512 (k0_pay63 h w) 0x00000000#32 reduces_S512x512_S512 (.inl rfl) rfl) shapeCasts_S512_S512x1 (ix2 p 0) = _
  rw [e]
  pointwise

theorem ln_at (f : FVec Ideal S512x512 .f32) (s : FVec Ideal S512x1 .f32) (w b : Vec Ideal S1x512 .f32) (p d : Fin 512)
    (hs : ∀ p, s (ix2 p 0) = ∑ k, f (ix2 p k)) :
    k0_pay66 f s k0_pay65 w b (ix2 p d) = lnOf (fun k => f (ix2 p k)) (fun k => w (ix2 0 k)) (fun k => b (ix2 0 k)) d := by
  pointwise [k0_pay66, k0_pay65, lnOf, meanOf]
  simp only [hs]

/-- Entry `(r, e)` of the 128×128 tile at row offset `r0` and column offset `c0`: the `u` part at the entry times
    the mix of the tile's column, plus the bias. -/
def tileOf (u v : FVec Ideal S512x512 .f32) (w : Vec Ideal S1x128x128 .bf16) (b : Vec Ideal S1x128x128 .f32) (r0 c0 : Fin 4) (r e : Fin 128) : EReal :=
  u (ix2 ⟨128 * r0.val + r.val, by omega⟩ ⟨128 * c0.val + e.val, by omega⟩)
    * ((∑ s : Fin 128, w (ix3 0 r s) * v (ix2 ⟨128 * r0.val + s.val, by omega⟩ ⟨128 * c0.val + e.val, by omega⟩)) + b (ix3 0 r e))

theorem pay67_at (u f : FVec Ideal S512x512 .f32) (s n : FVec Ideal S512x1 .f32) (lw lb : Vec Ideal S1x512 .f32) (w : Vec Ideal S1x128x128 .bf16) (b : Vec Ideal S1x128x128 .f32) (r e : Fin 128) :
    k0_pay67 u f s n lw lb w b (ix2 r e) = tileOf u (k0_pay66 f s n lw lb) w b 0 0 r e := by
  unfold k0_pay67
  generalize k0_pay66 f s n lw lb = v
  pointwise [tileOf]

theorem pay69_at (u f : FVec Ideal S512x512 .f32) (s n : FVec Ideal S512x1 .f32) (lw lb : Vec Ideal S1x512 .f32) (w : Vec Ideal S1x128x128 .bf16) (b : Vec Ideal S1x128x128 .f32) (r e : Fin 128) :
    k0_pay69 u (k0_pay68 f s n lw lb w) b (ix2 r e) = tileOf u (k0_pay66 f s n lw lb) w b 0 1 r e := by
  unfold k0_pay69 k0_pay68
  generalize k0_pay66 f s n lw lb = v
  pointwise [tileOf]

theorem pay74_at (u : FVec Ideal S512x512 .f32) (v : FVec Ideal S512x512 .bf16) (w : Vec Ideal S1x128x128 .bf16) (b : Vec Ideal S1x128x128 .f32) (r e : Fin 128) :
    k0_pay74 u (k0_pay72 w) (k0_pay73 v) (constant S128x128 .f32 0x00000000#32) b (ix2 r e) = tileOf u v w b 1 0 r e := by
  pointwise [k0_pay74, k0_pay72, k0_pay73, tileOf]

theorem pay85_at (u : FVec Ideal S512x512 .f32) (v : FVec Ideal S512x512 .bf16) (w : Vec Ideal S1x128x128 .bf16) (b : Vec Ideal S1x128x128 .f32) (r e : Fin 128) :
    k0_pay1 (k0_pay85 u v w b) (ix2 r e) = tileOf u v w b 3 3 r e := by
  pointwise [k0_pay1, k0_pay85, tileOf]

theorem pay70_at (u : FVec Ideal S512x512 .f32) (v : FVec Ideal S512x512 .bf16) (w : Vec Ideal S1x128x128 .bf16) (b : Vec Ideal S1x128x128 .f32) (r e : Fin 128) :
    k0_pay70 u v w b (ix2 r e) = tileOf u v w b 0 2 r e := by
  pointwise [k0_pay70, tileOf]

theorem pay71_at (u : FVec Ideal S512x512 .f32) (v : FVec Ideal S512x512 .bf16) (w : Vec Ideal S1x128x128 .bf16) (b : Vec Ideal S1x128x128 .f32) (r e : Fin 128) :
    k0_pay71 u v w b (ix2 r e) = tileOf u v w b 0 3 r e := by
  pointwise [k0_pay71, tileOf]

theorem pay75_at (u : FVec Ideal S512x512 .f32) (v : FVec Ideal S512x512 .bf16) (w : Vec Ideal S1x128x128 .bf16) (b : Vec Ideal S1x128x128 .f32) (r e : Fin 128) :
    k0_pay75 u v w b (ix2 r e) = tileOf u v w b 1 1 r e := by
  pointwise [k0_pay75, tileOf]

theorem pay76_at (u : FVec Ideal S512x512 .f32) (v : FVec Ideal S512x512 .bf16) (w : Vec Ideal S1x128x128 .bf16) (b : Vec Ideal S1x128x128 .f32) (r e : Fin 128) :
    k0_pay76 u v w b (ix2 r e) = tileOf u v w b 1 2 r e := by
  pointwise [k0_pay76, tileOf]

theorem pay77_at (u : FVec Ideal S512x512 .f32) (v : FVec Ideal S512x512 .bf16) (w : Vec Ideal S1x128x128 .bf16) (b : Vec Ideal S1x128x128 .f32) (r e : Fin 128) :
    k0_pay77 u v w b (ix2 r e) = tileOf u v w b 1 3 r e := by
  pointwise [k0_pay77, tileOf]

theorem pay78_at (u : FVec Ideal S512x512 .f32) (v : FVec Ideal S512x512 .bf16) (w : Vec Ideal S1x128x128 .bf16) (b : Vec Ideal S1x128x128 .f32) (r e : Fin 128) :
    k0_pay78 u v w b (ix2 r e) = tileOf u v w b 2 0 r e := by
  pointwise [k0_pay78, tileOf]

theorem pay79_at (u : FVec Ideal S512x512 .f32) (v : FVec Ideal S512x512 .bf16) (w : Vec Ideal S1x128x128 .bf16) (b : Vec Ideal S1x128x128 .f32) (r e : Fin 128) :
    k0_pay79 u v w b (ix2 r e) = tileOf u v w b 2 1 r e := by
  pointwise [k0_pay79, tileOf]

theorem pay80_at (u : FVec Ideal S512x512 .f32) (v : FVec Ideal S512x512 .bf16) (w : Vec Ideal S1x128x128 .bf16) (b : Vec Ideal S1x128x128 .f32) (r e : Fin 128) :
    k0_pay80 u v w b (ix2 r e) = tileOf u v w b 2 2 r e := by
  pointwise [k0_pay80, tileOf]

theorem pay81_at (u : FVec Ideal S512x512 .f32) (v : FVec Ideal S512x512 .bf16) (w : Vec Ideal S1x128x128 .bf16) (b : Vec Ideal S1x128x128 .f32) (r e : Fin 128) :
    k0_pay81 u v w b (ix2 r e) = tileOf u v w b 2 3 r e := by
  pointwise [k0_pay81, tileOf]

theorem pay82_at (u : FVec Ideal S512x512 .f32) (v : FVec Ideal S512x512 .bf16) (w : Vec Ideal S1x128x128 .bf16) (b : Vec Ideal S1x128x128 .f32) (r e : Fin 128) :
    k0_pay82 u v w b (ix2 r e) = tileOf u v w b 3 0 r e := by
  pointwise [k0_pay82, tileOf]

theorem pay83_at (u : FVec Ideal S512x512 .f32) (v : FVec Ideal S512x512 .bf16) (w : Vec Ideal S1x128x128 .bf16) (b : Vec Ideal S1x128x128 .f32) (r e : Fin 128) :
    k0_pay83 u v w b (ix2 r e) = tileOf u v w b 3 1 r e := by
  pointwise [k0_pay83, tileOf]

theorem pay84_at (u : FVec Ideal S512x512 .f32) (v : FVec Ideal S512x512 .bf16) (w : Vec Ideal S1x128x128 .bf16) (b : Vec Ideal S1x128x128 .f32) (r e : Fin 128) :
    k0_pay84 u v w b (ix2 r e) = tileOf u v w b 3 2 r e := by
  pointwise [k0_pay84, tileOf]

end Cert.InprojIdeal.Layer

end
-- ==== Proof.InprojConv.lean ====
module

public import proofs.«01_k».proof.Proof.InprojPay

@[expose] public section

set_option maxRecDepth 16384

noncomputable section

namespace Cert.Layer

open Idealize.ShloMosaic

/-- `1 / (1 + e^(-x))`. -/
def betaOf (x : EReal) : EReal := Ideal.div 1 (1 + Ideal.exp (-x))

/-- One entry of a head's row scaled to length one. -/
def headUnit (f : Fin 128 → EReal) (e : Fin 128) : EReal :=
  f e * Ideal.rsqrt ((∑ k, f k * f k) + Ideal.ofBits .f32 0x358637BD#32)

/-- Four successive entries of a column under the convolution's four weights, the newest first. -/
def convOf (x0 x1 x2 x3 : EReal) (w : Fin 4 → EReal) : EReal := x0 * w 3 + x1 * w 2 + x2 * w 1 + x3 * w 0

/-- Unit `k` of head `a`, in the part of the columns that starts at `o`. -/
def headCol (o : Nat) (ho : o ≤ 1024) (a : Fin 4) (k : Fin 128) : Fin 1536 := ⟨o + 128 * a.val + k.val, by omega⟩

theorem slt_small : ∀ (p : Fin 8) (s : Fin 4),
    IntOp.cmpi .slt (BitVec.ofNat 32 p.val) (BitVec.ofNat 32 s.val) = if p.val < s.val then 1#1 else 0#1 := by decide

end Cert.Layer

namespace Cert.InprojIdeal.Layer

open Cert.InprojIdeal Cert.InprojIdeal.Gen Cert.Layer Idealize.ShloMosaic

/-- Row `p` of the tile `X` moved down by `s` rows, the first rows filled from the last rows of `H`. -/
def shiftAt (X : FVec Ideal S512x1536 .f32) (H : FVec Ideal S8x1536 .f32) (s : Nat) (p : Fin 512) (j : Fin 1536) : EReal :=
  if p.val < s then H (ix2 ⟨(p.val + 8 - s) % 8, by omega⟩ j) else X (ix2 ⟨p.val - s, by omega⟩ j)

theorem shift_dif (X : FVec Ideal S512x1536 .f32) (H : FVec Ideal S8x1536 .f32) (s : Nat) (hs : s < 4) (p : Fin 512) (j : Fin 1536) :
    (if h : p.val < 8 then
        Scalar.select (IntOp.cmpi .slt (BitVec.ofNat 32 p.val) (BitVec.ofNat 32 s)) (H (ix2 ⟨(p.val + 8 - s) % 8, by omega⟩ j)) (X (ix2 ⟨(p.val + 512 - s) % 512, by omega⟩ j))
      else X (ix2 ⟨(8 + (p.val - 8) + 512 - s) % 512, by omega⟩ j)) = shiftAt X H s p j := by
  have hX : ∀ (q : Nat) (hq : q < 512) (_ : q = p.val - s), X (ix2 ⟨q, hq⟩ j) = X (ix2 ⟨p.val - s, by omega⟩ j) := fun q hq e => by subst e; rfl
  unfold shiftAt
  by_cases h8 : p.val < 8
  · rw [dif_pos h8, slt_small ⟨p.val, h8⟩ ⟨s, hs⟩]
    by_cases hp : p.val < s
    · rw [if_pos hp, if_pos hp]; rfl
    · rw [if_neg hp, if_neg hp]; exact hX _ _ (by omega)
  · rw [dif_neg h8, if_neg (by omega)]; exact hX _ _ (by omega)

theorem act_at (X : FVec Ideal S512x1536 .f32) (H : FVec Ideal S8x1536 .f32) (w : Vec Ideal S4x1536 .f32) (p : Fin 512) (j : Fin 1536) :
    k0_pay8 H w (iota .tc S8x1536 32 [0] iota_S8x1536_d0_w32) (k0_pay6 X H w) (k0_pay7 X) 3#32 (ix2 p j)
      = siluOf (convOf (X (ix2 p j)) (shiftAt X H 1 p j) (shiftAt X H 2 p j) (shiftAt X H 3 p j) (fun k => w (ix2 k j))) := by
  pointwise [k0_pay8, k0_pay7, k0_pay6]
  simp only [shift_dif X H 1 (by omega), shift_dif X H 2 (by omega), shift_dif X H 3 (by omega), zero_sub]
  rfl

theorem beta_at (h : FVec Ideal S512x1024 .bf16) (w : Vec Ideal S1024x128 .bf16) (p : Fin 512) (e : Fin 128) :
    k0_pay10 h w (ix2 p e) = betaOf (∑ k : Fin 1024, h (ix2 p k) * w (ix2 k e)) := by
  pointwise [k0_pay10, k0_pay9, betaOf]
  simp only [zero_sub]

variable (A : FVec Ideal S512x1536 .f32) (B : FVec Ideal S512x128 .f32)

/-- Head `a`: its gate's column, its query entry, its key entry times `B`'s column `a`, its value entry times it. -/
def headLane (a : Fin 4) : Fin 128 := ⟨a.val, by omega⟩
def qTile (a : Fin 4) (p : Fin 512) (e : Fin 128) : EReal :=
  headUnit (fun k => A (ix2 p (headCol 0 (by omega) a k))) e * Ideal.ofBits .f32 0x3DB504F3#32
def kTile (a : Fin 4) (p : Fin 512) (e : Fin 128) : EReal :=
  headUnit (fun k => A (ix2 p (headCol 512 (by omega) a k))) e * B (ix2 p (headLane a))
def vTile (a : Fin 4) (p : Fin 512) (e : Fin 128) : EReal := A (ix2 p (headCol 1024 (by omega) a e)) * B (ix2 p (headLane a))

theorem q0_at (p : Fin 512) (e : Fin 128) : k0_pay26 A (ix2 p e) = qTile A 0 p e := by
  pointwise [k0_pay26, qTile, headUnit, headCol]
theorem q1_at (p : Fin 512) (e : Fin 128) : k0_pay36 (k0_pay29 A) (k0_pay32 A) k0_pay33 (ix2 p e) = qTile A 1 p e := by
  pointwise [k0_pay36, k0_pay29, k0_pay32, k0_pay33, qTile, headUnit, headCol]
theorem q2_at (p : Fin 512) (e : Fin 128) : k0_pay45 (k0_pay41 A) (ix2 p e) = qTile A 2 p e := by
  pointwise [k0_pay45, k0_pay41, qTile, headUnit, headCol]
theorem q3_at (p : Fin 512) (e : Fin 128) : k0_pay51 A (ix2 p e) = qTile A 3 p e := by
  pointwise [k0_pay51, qTile, headUnit, headCol]

theorem kb0_at (p : Fin 512) (e : Fin 128) : k0_pay27 A B (ix2 p e) = kTile A B 0 p e := by
  pointwise [k0_pay27, k0_pay24, k0_pay25, kTile, headUnit, headCol, headLane]
theorem kb1_at (p : Fin 512) (e : Fin 128) : k0_pay37 B (k0_pay30 A) (ix2 p e) = kTile A B 1 p e := by
  pointwise [k0_pay37, k0_pay30, k0_pay34, k0_pay35, kTile, headUnit, headCol, headLane]
theorem kb2_at (p : Fin 512) (e : Fin 128) : k0_pay46 B (k0_pay39 A) (k0_pay42 A) (ix2 p e) = kTile A B 2 p e := by
  pointwise [k0_pay46, k0_pay39, k0_pay42, k0_pay43, k0_pay44, kTile, headUnit, headCol, headLane]
theorem kb3_at (p : Fin 512) (e : Fin 128) : k0_pay52 A B (ix2 p e) = kTile A B 3 p e := by
  pointwise [k0_pay52, k0_pay49, k0_pay50, kTile, headUnit, headCol, headLane]

theorem vb0_at (p : Fin 512) (e : Fin 128) : k0_pay28 A B (ix2 p e) = vTile A B 0 p e := by
  pointwise [k0_pay28, k0_pay25, vTile, headCol, headLane]
theorem vb1_at (p : Fin 512) (e : Fin 128) : k0_pay38 B (k0_pay31 A) (ix2 p e) = vTile A B 1 p e := by
  pointwise [k0_pay38, k0_pay31, k0_pay35, vTile, headCol, headLane]
theorem vb2_at (p : Fin 512) (e : Fin 128) : k0_pay47 B (k0_pay40 A) (ix2 p e) = vTile A B 2 p e := by
  pointwise [k0_pay47, k0_pay40, k0_pay44, vTile, headCol, headLane]
theorem vb3_at (p : Fin 512) (e : Fin 128) : k0_pay53 (k0_pay48 A) (k0_pay50 B) (ix2 p e) = vTile A B 3 p e := by
  pointwise [k0_pay53, k0_pay48, k0_pay50, vTile, headCol, headLane]

end Cert.InprojIdeal.Layer
end
-- ==== Proof.InprojHost.lean ====
module

public import proofs.«01_k».proof.Proof.Gen.InprojIdeal.Frame
public import Idealize.ShloMosaic.Lib.Pipeline.ValueKit
public import proofs.«01_k».proof.Proof.InprojPay
public import proofs.«01_k».proof.Proof.Common

@[expose] public section

set_option maxRecDepth 16384

noncomputable section

namespace Cert.InprojIdeal.Layer

open Cert.InprojIdeal Cert.InprojIdeal.Gen Cert.Layer Idealize.ShloMosaic Idealize.ShloMosaic.TcCoe Idealize.SL.Sem

variable (m : (ℓ : Loc nD τ sig) → Buf (Elt Ideal) ℓ)

theorem V_v0 (c : Dev nD) : V m c main_v0 = shapeCast S65536x1024 (m ((c : Thread nD τ).loc main_arg0) : Vec Ideal S16x4096x1024 .f32) shapeCasts_S16x4096x1024_S65536x1024 := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl
theorem V_v24 (c : Dev nD) : V m c main_v24 = broadcastInDim S1x1024 ![1] bcast_S1024_S1x1024_1 (m ((c : Thread nD τ).loc main_arg1) : Vec Ideal S1024 .f32) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl
theorem V_v25 (c : Dev nD) : V m c main_v25 = broadcastInDim S16x1x1024 ![0, 2] bcast_S16x1024_S16x1x1024_0_2 (m ((c : Thread nD τ).loc main_arg2) : Vec Ideal S16x1024 .f32) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl
theorem V_v26 (c : Dev nD) : V m c main_v26 = broadcastInDim S16x1x1024 ![0, 2] bcast_S16x1024_S16x1x1024_0_2 (m ((c : Thread nD τ).loc main_arg3) : Vec Ideal S16x1024 .f32) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl
theorem V_v27 (c : Dev nD) : V m c main_v27 = broadcastInDim S1x512 ![1] bcast_S512_S1x512_1 (m ((c : Thread nD τ).loc main_arg8) : Vec Ideal S512 .f32) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl
theorem V_v28 (c : Dev nD) : V m c main_v28 = broadcastInDim S1x512 ![1] bcast_S512_S1x512_1 (m ((c : Thread nD τ).loc main_arg9) : Vec Ideal S512 .f32) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl
theorem V_v12 (c : Dev nD) : V m c main_v12 = broadcastInDim S4x128x128 ![0, 1, 2] bcast_S4x128x1_S4x128x128_0_1_2 (broadcastInDim S4x128x1 ![0, 1] bcast_S4x128_S4x128x1_0_1 (m ((c : Thread nD τ).loc main_arg11) : Vec Ideal S4x128 .f32)) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl
theorem V_v10 (c : Dev nD) : V m c main_v10 = (truncf .bf16 (select (broadcastInDim S4x128x128 ![1, 2] bcast_S128x128_S4x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) (m ((c : Thread nD τ).loc main_arg10) : FVec Ideal S4x128x128 .f32) (broadcastInDim S4x128x128 ![] bcast_S_S4x128x128 (id (constant S_ .f32 0x00000000#32)))) bitsLt_bf16_f32 : FVec Ideal S4x128x128 .bf16) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl
theorem V_v6 (c : Dev nD) : V m c main_v6 = (truncf .bf16 (concatenate S1024x3200 1 [⟨S1024x2048, extractStridedSlice S1024x2048 ![0, 0] (m ((c : Thread nD τ).loc main_arg4) : FVec Ideal S1024x3080 .f32) slices_S1024x3080_S1024x2048_0_0⟩, ⟨S1024x1024, extractStridedSlice S1024x1024 ![0, 2056] (m ((c : Thread nD τ).loc main_arg4) : FVec Ideal S1024x3080 .f32) slices_S1024x3080_S1024x1024_0_2056⟩, ⟨S1024x8, extractStridedSlice S1024x8 ![0, 2048] (m ((c : Thread nD τ).loc main_arg4) : FVec Ideal S1024x3080 .f32) slices_S1024x3080_S1024x8_0_2048⟩, ⟨S1024x120, broadcastInDim S1024x120 ![] bcast_S_S1024x120 (constant S_ .f32 0x00000000#32)⟩] concatenates_S1024x2048_S1024x1024_S1024x8_S1024x120_S1024x3200_d1) bitsLt_bf16_f32 : FVec Ideal S1024x3200 .bf16) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl

theorem at_v0 (c : Dev nD) (r : Fin 65536) (d : Fin 1024) : V m c main_v0 (ix2 r d)
    = m ((c : Thread nD τ).loc main_arg0) (ix3 (batch r) (pos r) d) := by
  rw [V_v0]; exact flat_apply _ _ _ _
theorem at_v24 (c : Dev nD) (d : Fin 1024) : V m c main_v24 (ix2 0 d) = m ((c : Thread nD τ).loc main_arg1) (ix1 d) := by
  rw [V_v24]; pointwise
theorem at_v25 (c : Dev nD) (b : Fin 16) (d : Fin 1024) : V m c main_v25 (ix3 b 0 d) = m ((c : Thread nD τ).loc main_arg2) (ix2 b d) := by
  rw [V_v25]; pointwise
theorem at_v26 (c : Dev nD) (b : Fin 16) (d : Fin 1024) : V m c main_v26 (ix3 b 0 d) = m ((c : Thread nD τ).loc main_arg3) (ix2 b d) := by
  rw [V_v26]; pointwise
theorem at_v27 (c : Dev nD) (d : Fin 512) : V m c main_v27 (ix2 0 d) = m ((c : Thread nD τ).loc main_arg8) (ix1 d) := by
  rw [V_v27]; pointwise
theorem at_v28 (c : Dev nD) (d : Fin 512) : V m c main_v28 (ix2 0 d) = m ((c : Thread nD τ).loc main_arg9) (ix1 d) := by
  rw [V_v28]; pointwise
theorem at_v12 (c : Dev nD) (g : Fin 4) (t e : Fin 128) : V m c main_v12 (ix3 g t e) = m ((c : Thread nD τ).loc main_arg11) (ix2 g t) := by
  rw [V_v12]; pointwise
theorem at_v10 (c : Dev nD) (g : Fin 4) (t s : Fin 128) : V m c main_v10 (ix3 g t s) = upTo t s (m ((c : Thread nD τ).loc main_arg10) (ix3 g t s)) := by
  have z : id (constant S_ .f32 0x00000000#32 : FVec Ideal S_ .f32) ix0 = 0 := by rw [id_eq]; pointwise
  rw [V_v10]; pointwise
  rw [z]
  rfl
/-- Columns before 2048 of the padded weight are the argument's, -/
theorem at_v6_lo (c : Dev nD) (k : Fin 1024) (j : Fin 3200) (hj : j.val < 2048) :
    V m c main_v6 (ix2 k j) = m ((c : Thread nD τ).loc main_arg4) (ix2 k ⟨j.val, by omega⟩) := by
  rw [V_v6]; pointwise; rw [dif_pos hj]
/-- and the 1024 after them are the argument's eight columns on. -/
theorem at_v6_hi (c : Dev nD) (k : Fin 1024) (j : Fin 3200) (hj : 2048 ≤ j.val) (hj' : j.val < 3072) :
    V m c main_v6 (ix2 k j) = m ((c : Thread nD τ).loc main_arg4) (ix2 k ⟨j.val + 8, by omega⟩) := by
  rw [V_v6]; pointwise; rw [dif_neg (by omega), dif_pos (by omega)]
  exact congrArg (fun q => m ((c : Thread nD τ).loc main_arg4) (ix2 k q)) (Fin.ext (by show 2056 + (j.val - 2048) = j.val + 8; omega))

/-- Which block each window takes at a point: rows by the point's tile, modulation by its batch, the rest whole. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 2) = 0 ∧ win0_4.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = 0 ∧ win0_9.index t (1 : Fin 3) = 0 ∧ win0_9.index t (2 : Fin 3) = 0)
    ∧ (win0_10.index t (0 : Fin 3) = 0 ∧ win0_10.index t (1 : Fin 3) = 0 ∧ win0_10.index t (2 : Fin 3) = 0)
    ∧ (win0_15.index t (0 : Fin 2) = t.val ∧ win0_15.index t (1 : Fin 2) = 0)
    ∧ (win0_18.index t (0 : Fin 2) = t.val ∧ win0_18.index t (1 : Fin 2) = 0) :=
  (by decide +kernel : ∀ t : Fin grid0.N, _)

theorem t_lt (t : Fin cfg0.N) : t.val < 128 := lt_of_lt_of_eq t.isLt N_0

/-- The token at row `p` of point `t`'s tile. -/
def row (t : Fin cfg0.N) (p : Fin 512) : Fin 65536 := ⟨512 * t.val + p.val, by have := t_lt t; omega⟩

theorem blk0 (c : Dev nD) (t : Fin cfg0.N) (p : Fin 512) (d : Fin 1024) :
    iblk m c 0 t (ix2 p d) = m ((c : Thread nD τ).loc main_arg0) (ix3 (batch (row t p)) (pos (row t p)) d) := by
  obtain ⟨⟨h, h'⟩, -⟩ := idx_facts t
  show V m c main_v0 (((cfg0.win 0).blk t).view.emb (ix2 p d)) = _
  refine Eq.trans ?_ (at_v0 m c (row t p) d)
  congr 1; funext a; apply Fin.ext
  match a with
  | ⟨0, _⟩ => show win0_0.index t (0 : Fin 2) * 512 + 1 * p.val = 512 * t.val + p.val; rw [h]; omega
  | ⟨1, _⟩ => show win0_0.index t (1 : Fin 2) * 1024 + 1 * d.val = d.val; rw [h']; omega

theorem blk1 (c : Dev nD) (t : Fin cfg0.N) (d : Fin 1024) :
    iblk m c 1 t (ix2 0 d) = m ((c : Thread nD τ).loc main_arg1) (ix1 d) := by
  obtain ⟨-, ⟨h, h'⟩, -⟩ := idx_facts t
  show V m c main_v24 (((cfg0.win 1).blk t).view.emb (ix2 0 d)) = _
  refine Eq.trans ?_ (at_v24 m c d)
  congr 1; funext a; apply Fin.ext
  match a with
  | ⟨0, _⟩ => show win0_1.index t (0 : Fin 2) * 1 + 1 * 0 = 0; rw [h]
  | ⟨1, _⟩ => show win0_1.index t (1 : Fin 2) * 1024 + 1 * d.val = d.val; rw [h']; omega

theorem blk2 (c : Dev nD) (t : Fin cfg0.N) (p : Fin 512) (d : Fin 1024) :
    iblk m c 2 t (ix3 0 0 d) = m ((c : Thread nD τ).loc main_arg2) (ix2 (batch (row t p)) d) := by
  obtain ⟨-, -, ⟨h, h', h''⟩, -⟩ := idx_facts t
  show V m c main_v25 (((cfg0.win 2).blk t).view.emb (ix3 0 0 d)) = _
  refine Eq.trans ?_ (at_v25 m c (batch (row t p)) d)
  congr 1; funext a; apply Fin.ext
  match a with
  | ⟨0, _⟩ => show win0_2.index t (0 : Fin 3) * 1 + 1 * 0 = (512 * t.val + p.val) / 4096; rw [h]; omega
  | ⟨1, _⟩ => show win0_2.index t (1 : Fin 3) * 1 + 1 * 0 = 0; rw [h']
  | ⟨2, _⟩ => show win0_2.index t (2 : Fin 3) * 1024 + 1 * d.val = d.val; rw [h'']; omega

theorem blk3 (c : Dev nD) (t : Fin cfg0.N) (p : Fin 512) (d : Fin 1024) :
    iblk m c 3 t (ix3 0 0 d) = m ((c : Thread nD τ).loc main_arg3) (ix2 (batch (row t p)) d) := by
  obtain ⟨-, -, -, ⟨h, h', h''⟩, -⟩ := idx_facts t
  show V m c main_v26 (((cfg0.win 3).blk t).view.emb (ix3 0 0 d)) = _
  refine Eq.trans ?_ (at_v26 m c (batch (row t p)) d)
  congr 1; funext a; apply Fin.ext
  match a with
  | ⟨0, _⟩ => show win0_3.index t (0 : Fin 3) * 1 + 1 * 0 = (512 * t.val + p.val) / 4096; rw [h]; omega
  | ⟨1, _⟩ => show win0_3.index t (1 : Fin 3) * 1 + 1 * 0 = 0; rw [h']
  | ⟨2, _⟩ => show win0_3.index t (2 : Fin 3) * 1024 + 1 * d.val = d.val; rw [h'']; omega

theorem blk7 (c : Dev nD) (t : Fin cfg0.N) (d : Fin 512) :
    iblk m c 7 t (ix2 0 d) = m ((c : Thread nD τ).loc main_arg8) (ix1 d) := by
  obtain ⟨-, -, -, -, -, ⟨h, h'⟩, -⟩ := idx_facts t
  show V m c main_v27 (((cfg0.win 7).blk t).view.emb (ix2 0 d)) = _
  refine Eq.trans ?_ (at_v27 m c d)
  congr 1; funext a; apply Fin.ext
  match a with
  | ⟨0, _⟩ => show win0_7.index t (0 : Fin 2) * 1 + 1 * 0 = 0; rw [h]
  | ⟨1, _⟩ => show win0_7.index t (1 : Fin 2) * 512 + 1 * d.val = d.val; rw [h']; omega

theorem blk8 (c : Dev nD) (t : Fin cfg0.N) (d : Fin 512) :
    iblk m c 8 t (ix2 0 d) = m ((c : Thread nD τ).loc main_arg9) (ix1 d) := by
  obtain ⟨-, -, -, -, -, -, ⟨h, h'⟩, -⟩ := idx_facts t
  show V m c main_v28 (((cfg0.win 8).blk t).view.emb (ix2 0 d)) = _
  refine Eq.trans ?_ (at_v28 m c d)
  congr 1; funext a; apply Fin.ext
  match a with
  | ⟨0, _⟩ => show win0_8.index t (0 : Fin 2) * 1 + 1 * 0 = 0; rw [h]
  | ⟨1, _⟩ => show win0_8.index t (1 : Fin 2) * 512 + 1 * d.val = d.val; rw [h']; omega

theorem blk9 (c : Dev nD) (t : Fin cfg0.N) (g : Fin 4) (r s : Fin 128) :
    iblk m c 9 t (ix3 g r s) = upTo r s (m ((c : Thread nD τ).loc main_arg10) (ix3 g r s)) := by
  obtain ⟨-, -, -, -, -, -, -, ⟨h, h', h''⟩, -⟩ := idx_facts t
  show V m c main_v10 (((cfg0.win 9).blk t).view.emb (ix3 g r s)) = _
  refine Eq.trans ?_ (at_v10 m c g r s)
  congr 1; funext a; apply Fin.ext
  match a with
  | ⟨0, _⟩ => show win0_9.index t (0 : Fin 3) * 4 + 1 * g.val = g.val; rw [h]; omega
  | ⟨1, _⟩ => show win0_9.index t (1 : Fin 3) * 128 + 1 * r.val = r.val; rw [h']; omega
  | ⟨2, _⟩ => show win0_9.index t (2 : Fin 3) * 128 + 1 * s.val = s.val; rw [h'']; omega

theorem blk10 (c : Dev nD) (t : Fin cfg0.N) (g : Fin 4) (r s : Fin 128) :
    iblk m c 10 t (ix3 g r s) = m ((c : Thread nD τ).loc main_arg11) (ix2 g r) := by
  obtain ⟨-, -, -, -, -, -, -, -, ⟨h, h', h''⟩, -⟩ := idx_facts t
  show V m c main_v12 (((cfg0.win 10).blk t).view.emb (ix3 g r s)) = _
  refine Eq.trans ?_ (at_v12 m c g r s)
  congr 1; funext a; apply Fin.ext
  match a with
  | ⟨0, _⟩ => show win0_10.index t (0 : Fin 3) * 4 + 1 * g.val = g.val; rw [h]; omega
  | ⟨1, _⟩ => show win0_10.index t (1 : Fin 3) * 128 + 1 * r.val = r.val; rw [h']; omega
  | ⟨2, _⟩ => show win0_10.index t (2 : Fin 3) * 128 + 1 * s.val = s.val; rw [h'']; omega

/-- The weight's block is the whole padded weight. -/
theorem blk4 (c : Dev nD) (t : Fin cfg0.N) (k : Fin 1024) (j : Fin 3200) : iblk m c 4 t (ix2 k j) = V m c main_v6 (ix2 k j) := by
  obtain ⟨-, -, -, -, ⟨h, h'⟩, -⟩ := idx_facts t
  show V m c main_v6 (((cfg0.win 4).blk t).view.emb (ix2 k j)) = _
  congr 1; funext a; apply Fin.ext
  match a with
  | ⟨0, _⟩ => show win0_4.index t (0 : Fin 2) * 1024 + 1 * k.val = k.val; rw [h]; omega
  | ⟨1, _⟩ => show win0_4.index t (1 : Fin 2) * 3200 + 1 * j.val = j.val; rw [h']; omega

/-- The normalised and modulated row of token `r`, -/
def normed (c : Dev nD) (r : Fin 65536) : Fin 1024 → EReal :=
  normRow (fun k => m ((c : Thread nD τ).loc main_arg0) (ix3 (batch r) (pos r) k)) (fun k => m ((c : Thread nD τ).loc main_arg1) (ix1 k))
    (fun k => m ((c : Thread nD τ).loc main_arg2) (ix2 (batch r) k)) (fun k => m ((c : Thread nD τ).loc main_arg3) (ix2 (batch r) k))

/-- and column `j` of its projection. -/
def proj (c : Dev nD) (r : Fin 65536) (j : Fin 3080) : EReal :=
  ∑ k, normed m c r k * m ((c : Thread nD τ).loc main_arg4) (ix2 k j)

theorem normed_at (c : Dev nD) (t : Fin cfg0.N) (p : Fin 512) (d : Fin 1024) :
    k0_pay2 (iblk m c 0 t) (iblk m c 1 t) (iblk m c 2 t) (iblk m c 3 t) (ix2 p d) = normed m c (row t p) d := by
  rw [rows_at]
  simp only [blk0, blk1, blk2 m c t p, blk3 m c t p]
  rfl

end Cert.InprojIdeal.Layer

end
-- ==== Proof.InprojOut.lean ====
module

public import proofs.«01_k».proof.Proof.InprojHost

@[expose] public section

set_option maxRecDepth 16384

noncomputable section

namespace Cert.InprojIdeal.Layer

open Cert.InprojIdeal Cert.InprojIdeal.Gen Cert.Layer Idealize.ShloMosaic Idealize.ShloMosaic.TcCoe Idealize.SL.Sem

variable (m : (ℓ : Loc nD τ sig) → Buf (Elt Ideal) ℓ)

/-- The normalised rows of a point's tile, and its three blocks of 512 columns of the padded weight. -/
def rowsOf (c : Dev nD) (t : Fin cfg0.N) : FVec Ideal S512x1024 .bf16 := k0_pay2 (iblk m c 0 t) (iblk m c 1 t) (iblk m c 2 t) (iblk m c 3 t)
def colsZ (c : Dev nD) (t : Fin cfg0.N) : Vec Ideal S1024x512 .bf16 := View.ld (iblk m c 4 t) (Rect.unit (s := S1024x3200) ![0, 1536] S1024x512.size inb_S1024x3200_S1024x512_0_1536)
def colsU (c : Dev nD) (t : Fin cfg0.N) : Vec Ideal S1024x512 .bf16 := View.ld (iblk m c 4 t) (Rect.unit (s := S1024x3200) ![0, 2048] S1024x512.size inb_S1024x3200_S1024x512_0_2048)
def colsV (c : Dev nD) (t : Fin cfg0.N) : Vec Ideal S1024x512 .bf16 := View.ld (iblk m c 4 t) (Rect.unit (s := S1024x3200) ![0, 2560] S1024x512.size inb_S1024x3200_S1024x512_0_2560)

theorem zs_A (c : Dev nD) (t : Fin cfg0.N) (h0 : t.val % 8 = 0) :
    (outsAt0 m c t.val t.isLt).2.2.2.2.1 = k0_pay61 (k0_pay59 (rowsOf m c t) (colsZ m c t)) (k0_pay60 (rowsOf m c t) (colsZ m c t)) := by
  rw [outsAt0_A m c t h0]
  frame_out
  rfl

theorem zs_B (c : Dev nD) (t : Fin cfg0.N) (h0 : ¬t.val % 8 = 0) :
    (outsAt0 m c t.val t.isLt).2.2.2.2.1 = k0_pay61 (k0_pay59 (rowsOf m c t) (colsZ m c t)) (k0_pay60 (rowsOf m c t) (colsZ m c t)) := by
  rw [outsAt0_B m c t h0]
  frame_out
  rfl

/-- The tile's `u` part and its normalised `v` part. -/
def uOf (c : Dev nD) (t : Fin cfg0.N) : FVec Ideal S512x512 .f32 := k0_pay62 (rowsOf m c t) (colsU m c t)
def vOf (c : Dev nD) (t : Fin cfg0.N) : FVec Ideal S512x512 .bf16 :=
  k0_pay66 (k0_pay63 (rowsOf m c t) (colsV m c t)) (k0_pay64 (rowsOf m c t) (colsV m c t)) k0_pay65 (iblk m c 7 t) (iblk m c 8 t)

/-- The four groups' matrices and bias rows. -/
def wOf (c : Dev nD) (t : Fin cfg0.N) : Vec Ideal S4x128x128 .bf16 := iblk m c 9 t
def bOf (c : Dev nD) (t : Fin cfg0.N) : Vec Ideal S4x128x128 .f32 := iblk m c 10 t

/-- Entry `(p, d)` of the third result's block. -/
def entryOf (c : Dev nD) (t : Fin cfg0.N) (p d : Fin 512) : EReal :=
  uOf m c t (ix2 p d)
    * ((∑ s : Fin 128, wOf m c t (ix3 ⟨d.val / 128, by omega⟩ ⟨p.val % 128, by omega⟩ s) * vOf m c t (ix2 ⟨128 * (p.val / 128) + s.val, by omega⟩ d))
      + bOf m c t (ix3 ⟨d.val / 128, by omega⟩ ⟨p.val % 128, by omega⟩ ⟨d.val % 128, by omega⟩))

/-- A load of one group's 128×128 matrix reads that group. -/
theorem ld_at {e : EltTy} (X : Vec Ideal S4x128x128 e) (g : Fin 4) (off : Fin 3 → ℕ) (inb : ∀ a, off a + S1x128x128.size a ≤ S4x128x128.size a)
    (e0 : off 0 = g.val) (e1 : off 1 = 0) (e2 : off 2 = 0) (r s : Fin 128) :
    View.ld X (Rect.unit (s := S4x128x128) off S1x128x128.size inb) (ix3 0 r s) = X (ix3 g r s) := by
  refine View.ld_unit_apply_of _ _ _ _ _ _ fun a => ?_
  match a with
  | ⟨0, _⟩ => show g.val = off 0 + 0; omega
  | ⟨1, _⟩ => show r.val = off 1 + r.val; omega
  | ⟨2, _⟩ => show s.val = off 2 + s.val; omega

/-- A tile's entry is the block's entry at its place. -/
theorem tile_entry (c : Dev nD) (t : Fin cfg0.N) (r0 c0 : Fin 4) (r e : Fin 128) (p d : Fin 512) (w : Vec Ideal S1x128x128 .bf16) (b : Vec Ideal S1x128x128 .f32)
    (hw : ∀ r s, w (ix3 0 r s) = wOf m c t (ix3 c0 r s)) (hb : ∀ r s, b (ix3 0 r s) = bOf m c t (ix3 c0 r s))
    (hp : p.val = 128 * r0.val + r.val) (hd : d.val = 128 * c0.val + e.val) :
    tileOf (uOf m c t) (vOf m c t) w b r0 c0 r e = entryOf m c t p d := by
  have e1 : (⟨d.val / 128, by omega⟩ : Fin 4) = c0 := Fin.ext (by show d.val / 128 = c0.val; omega)
  have e2 : (⟨p.val % 128, by omega⟩ : Fin 128) = r := Fin.ext (by show p.val % 128 = r.val; omega)
  have e3 : (⟨d.val % 128, by omega⟩ : Fin 128) = e := Fin.ext (by show d.val % 128 = e.val; omega)
  have e4 : (⟨128 * r0.val + r.val, by omega⟩ : Fin 512) = p := Fin.ext hp.symm
  have e5 : (⟨128 * c0.val + e.val, by omega⟩ : Fin 512) = d := Fin.ext hd.symm
  have e6 : p.val / 128 = r0.val := by omega
  unfold tileOf entryOf
  simp only [hw, hb, e1, e2, e3, e4, e5, e6]

theorem ogm_A (c : Dev nD) (t : Fin cfg0.N) (h0 : t.val % 8 = 0) (p d : Fin 512) :
    (outsAt0 m c t.val t.isLt).2.2.2.2.2.2.2.1 (ix2 p d) = entryOf m c t p d := by
  rw [outsAt0_A m c t h0]
  frame_out
  canon_tiles x h
  · idx_vars x; exact (pay85_at _ _ _ _ x0 x1).trans (tile_entry m c t 3 3 x0 x1 p d _ _ (ld_at _ 3 _ _ rfl rfl rfl) (ld_at _ 3 _ _ rfl rfl rfl) (by show p.val = 128 * 3 + x0.val; omega) (by show d.val = 128 * 3 + x1.val; omega))
  · idx_vars x; exact (pay84_at _ _ _ _ x0 x1).trans (tile_entry m c t 3 2 x0 x1 p d _ _ (ld_at _ 2 _ _ rfl rfl rfl) (ld_at _ 2 _ _ rfl rfl rfl) (by show p.val = 128 * 3 + x0.val; omega) (by show d.val = 128 * 2 + x1.val; omega))
  · idx_vars x; exact (pay83_at _ _ _ _ x0 x1).trans (tile_entry m c t 3 1 x0 x1 p d _ _ (ld_at _ 1 _ _ rfl rfl rfl) (ld_at _ 1 _ _ rfl rfl rfl) (by show p.val = 128 * 3 + x0.val; omega) (by show d.val = 128 * 1 + x1.val; omega))
  · idx_vars x; exact (pay82_at _ _ _ _ x0 x1).trans (tile_entry m c t 3 0 x0 x1 p d _ _ (ld_at _ 0 _ _ rfl rfl rfl) (ld_at _ 0 _ _ rfl rfl rfl) (by show p.val = 128 * 3 + x0.val; omega) (by show d.val = 128 * 0 + x1.val; omega))
  · idx_vars x; exact (pay81_at _ _ _ _ x0 x1).trans (tile_entry m c t 2 3 x0 x1 p d _ _ (ld_at _ 3 _ _ rfl rfl rfl) (ld_at _ 3 _ _ rfl rfl rfl) (by show p.val = 128 * 2 + x0.val; omega) (by show d.val = 128 * 3 + x1.val; omega))
  · idx_vars x; exact (pay80_at _ _ _ _ x0 x1).trans (tile_entry m c t 2 2 x0 x1 p d _ _ (ld_at _ 2 _ _ rfl rfl rfl) (ld_at _ 2 _ _ rfl rfl rfl) (by show p.val = 128 * 2 + x0.val; omega) (by show d.val = 128 * 2 + x1.val; omega))
  · idx_vars x; exact (pay79_at _ _ _ _ x0 x1).trans (tile_entry m c t 2 1 x0 x1 p d _ _ (ld_at _ 1 _ _ rfl rfl rfl) (ld_at _ 1 _ _ rfl rfl rfl) (by show p.val = 128 * 2 + x0.val; omega) (by show d.val = 128 * 1 + x1.val; omega))
  · idx_vars x; exact (pay78_at _ _ _ _ x0 x1).trans (tile_entry m c t 2 0 x0 x1 p d _ _ (ld_at _ 0 _ _ rfl rfl rfl) (ld_at _ 0 _ _ rfl rfl rfl) (by show p.val = 128 * 2 + x0.val; omega) (by show d.val = 128 * 0 + x1.val; omega))
  · idx_vars x; exact (pay77_at _ _ _ _ x0 x1).trans (tile_entry m c t 1 3 x0 x1 p d _ _ (ld_at _ 3 _ _ rfl rfl rfl) (ld_at _ 3 _ _ rfl rfl rfl) (by show p.val = 128 * 1 + x0.val; omega) (by show d.val = 128 * 3 + x1.val; omega))
  · idx_vars x; exact (pay76_at _ _ _ _ x0 x1).trans (tile_entry m c t 1 2 x0 x1 p d _ _ (ld_at _ 2 _ _ rfl rfl rfl) (ld_at _ 2 _ _ rfl rfl rfl) (by show p.val = 128 * 1 + x0.val; omega) (by show d.val = 128 * 2 + x1.val; omega))
  · idx_vars x; exact (pay75_at _ _ _ _ x0 x1).trans (tile_entry m c t 1 1 x0 x1 p d _ _ (ld_at _ 1 _ _ rfl rfl rfl) (ld_at _ 1 _ _ rfl rfl rfl) (by show p.val = 128 * 1 + x0.val; omega) (by show d.val = 128 * 1 + x1.val; omega))
  · idx_vars x; exact (pay74_at _ _ _ _ x0 x1).trans (tile_entry m c t 1 0 x0 x1 p d _ _ (ld_at _ 0 _ _ rfl rfl rfl) (ld_at _ 0 _ _ rfl rfl rfl) (by show p.val = 128 * 1 + x0.val; omega) (by show d.val = 128 * 0 + x1.val; omega))
  · idx_vars x; exact (pay71_at _ _ _ _ x0 x1).trans (tile_entry m c t 0 3 x0 x1 p d _ _ (ld_at _ 3 _ _ rfl rfl rfl) (ld_at _ 3 _ _ rfl rfl rfl) (by show p.val = 128 * 0 + x0.val; omega) (by show d.val = 128 * 3 + x1.val; omega))
  · idx_vars x; exact (pay70_at _ _ _ _ x0 x1).trans (tile_entry m c t 0 2 x0 x1 p d _ _ (ld_at _ 2 _ _ rfl rfl rfl) (ld_at _ 2 _ _ rfl rfl rfl) (by show p.val = 128 * 0 + x0.val; omega) (by show d.val = 128 * 2 + x1.val; omega))
  · idx_vars x; exact (pay69_at _ _ _ _ _ _ _ _ x0 x1).trans (tile_entry m c t 0 1 x0 x1 p d _ _ (ld_at _ 1 _ _ rfl rfl rfl) (ld_at _ 1 _ _ rfl rfl rfl) (by show p.val = 128 * 0 + x0.val; omega) (by show d.val = 128 * 1 + x1.val; omega))
  · idx_vars x; exact (pay67_at _ _ _ _ _ _ _ _ x0 x1).trans (tile_entry m c t 0 0 x0 x1 p d _ _ (ld_at _ 0 _ _ rfl rfl rfl) (ld_at _ 0 _ _ rfl rfl rfl) (by show p.val = 128 * 0 + x0.val; omega) (by show d.val = 128 * 0 + x1.val; omega))

theorem ogm_B (c : Dev nD) (t : Fin cfg0.N) (h0 : ¬t.val % 8 = 0) (p d : Fin 512) :
    (outsAt0 m c t.val t.isLt).2.2.2.2.2.2.2.1 (ix2 p d) = entryOf m c t p d := by
  rw [outsAt0_B m c t h0]
  frame_out
  canon_tiles x h
  · idx_vars x; exact (pay85_at _ _ _ _ x0 x1).trans (tile_entry m c t 3 3 x0 x1 p d _ _ (ld_at _ 3 _ _ rfl rfl rfl) (ld_at _ 3 _ _ rfl rfl rfl) (by show p.val = 128 * 3 + x0.val; omega) (by show d.val = 128 * 3 + x1.val; omega))
  · idx_vars x; exact (pay84_at _ _ _ _ x0 x1).trans (tile_entry m c t 3 2 x0 x1 p d _ _ (ld_at _ 2 _ _ rfl rfl rfl) (ld_at _ 2 _ _ rfl rfl rfl) (by show p.val = 128 * 3 + x0.val; omega) (by show d.val = 128 * 2 + x1.val; omega))
  · idx_vars x; exact (pay83_at _ _ _ _ x0 x1).trans (tile_entry m c t 3 1 x0 x1 p d _ _ (ld_at _ 1 _ _ rfl rfl rfl) (ld_at _ 1 _ _ rfl rfl rfl) (by show p.val = 128 * 3 + x0.val; omega) (by show d.val = 128 * 1 + x1.val; omega))
  · idx_vars x; exact (pay82_at _ _ _ _ x0 x1).trans (tile_entry m c t 3 0 x0 x1 p d _ _ (ld_at _ 0 _ _ rfl rfl rfl) (ld_at _ 0 _ _ rfl rfl rfl) (by show p.val = 128 * 3 + x0.val; omega) (by show d.val = 128 * 0 + x1.val; omega))
  · idx_vars x; exact (pay81_at _ _ _ _ x0 x1).trans (tile_entry m c t 2 3 x0 x1 p d _ _ (ld_at _ 3 _ _ rfl rfl rfl) (ld_at _ 3 _ _ rfl rfl rfl) (by show p.val = 128 * 2 + x0.val; omega) (by show d.val = 128 * 3 + x1.val; omega))
  · idx_vars x; exact (pay80_at _ _ _ _ x0 x1).trans (tile_entry m c t 2 2 x0 x1 p d _ _ (ld_at _ 2 _ _ rfl rfl rfl) (ld_at _ 2 _ _ rfl rfl rfl) (by show p.val = 128 * 2 + x0.val; omega) (by show d.val = 128 * 2 + x1.val; omega))
  · idx_vars x; exact (pay79_at _ _ _ _ x0 x1).trans (tile_entry m c t 2 1 x0 x1 p d _ _ (ld_at _ 1 _ _ rfl rfl rfl) (ld_at _ 1 _ _ rfl rfl rfl) (by show p.val = 128 * 2 + x0.val; omega) (by show d.val = 128 * 1 + x1.val; omega))
  · idx_vars x; exact (pay78_at _ _ _ _ x0 x1).trans (tile_entry m c t 2 0 x0 x1 p d _ _ (ld_at _ 0 _ _ rfl rfl rfl) (ld_at _ 0 _ _ rfl rfl rfl) (by show p.val = 128 * 2 + x0.val; omega) (by show d.val = 128 * 0 + x1.val; omega))
  · idx_vars x; exact (pay77_at _ _ _ _ x0 x1).trans (tile_entry m c t 1 3 x0 x1 p d _ _ (ld_at _ 3 _ _ rfl rfl rfl) (ld_at _ 3 _ _ rfl rfl rfl) (by show p.val = 128 * 1 + x0.val; omega) (by show d.val = 128 * 3 + x1.val; omega))
  · idx_vars x; exact (pay76_at _ _ _ _ x0 x1).trans (tile_entry m c t 1 2 x0 x1 p d _ _ (ld_at _ 2 _ _ rfl rfl rfl) (ld_at _ 2 _ _ rfl rfl rfl) (by show p.val = 128 * 1 + x0.val; omega) (by show d.val = 128 * 2 + x1.val; omega))
  · idx_vars x; exact (pay75_at _ _ _ _ x0 x1).trans (tile_entry m c t 1 1 x0 x1 p d _ _ (ld_at _ 1 _ _ rfl rfl rfl) (ld_at _ 1 _ _ rfl rfl rfl) (by show p.val = 128 * 1 + x0.val; omega) (by show d.val = 128 * 1 + x1.val; omega))
  · idx_vars x; exact (pay74_at _ _ _ _ x0 x1).trans (tile_entry m c t 1 0 x0 x1 p d _ _ (ld_at _ 0 _ _ rfl rfl rfl) (ld_at _ 0 _ _ rfl rfl rfl) (by show p.val = 128 * 1 + x0.val; omega) (by show d.val = 128 * 0 + x1.val; omega))
  · idx_vars x; exact (pay71_at _ _ _ _ x0 x1).trans (tile_entry m c t 0 3 x0 x1 p d _ _ (ld_at _ 3 _ _ rfl rfl rfl) (ld_at _ 3 _ _ rfl rfl rfl) (by show p.val = 128 * 0 + x0.val; omega) (by show d.val = 128 * 3 + x1.val; omega))
  · idx_vars x; exact (pay70_at _ _ _ _ x0 x1).trans (tile_entry m c t 0 2 x0 x1 p d _ _ (ld_at _ 2 _ _ rfl rfl rfl) (ld_at _ 2 _ _ rfl rfl rfl) (by show p.val = 128 * 0 + x0.val; omega) (by show d.val = 128 * 2 + x1.val; omega))
  · idx_vars x; exact (pay69_at _ _ _ _ _ _ _ _ x0 x1).trans (tile_entry m c t 0 1 x0 x1 p d _ _ (ld_at _ 1 _ _ rfl rfl rfl) (ld_at _ 1 _ _ rfl rfl rfl) (by show p.val = 128 * 0 + x0.val; omega) (by show d.val = 128 * 1 + x1.val; omega))
  · idx_vars x; exact (pay67_at _ _ _ _ _ _ _ _ x0 x1).trans (tile_entry m c t 0 0 x0 x1 p d _ _ (ld_at _ 0 _ _ rfl rfl rfl) (ld_at _ 0 _ _ rfl rfl rfl) (by show p.val = 128 * 0 + x0.val; omega) (by show d.val = 128 * 0 + x1.val; omega))

end Cert.InprojIdeal.Layer
end
-- ==== Proof.InprojHalo.lean ====
module

public import proofs.«01_k».proof.Proof.InprojConv
public import proofs.«01_k».proof.Proof.InprojOut

@[expose] public section

set_option maxRecDepth 16384

noncomputable section

namespace Cert.InprojIdeal.Layer

open Cert.InprojIdeal Cert.InprojIdeal.Gen Cert.Layer Idealize.ShloMosaic Idealize.ShloMosaic.TcCoe Idealize.SL.Sem

variable (m : (ℓ : Loc nD τ sig) → Buf (Elt Ideal) ℓ)

theorem V_arg5 (c : Dev nD) : V m c main_arg5 = m ((c : Thread nD τ).loc main_arg5) := by
  show StableHlo.after (List.flatten [hostOps0, hostOps0_1, hostOps0_2, hostOps0_3, hostOps0_4]) _ _ = _
  simp only [List.flatten_cons, List.flatten_nil, List.cons_append, List.nil_append, List.append_nil, hostOps0, hostOps0_1, hostOps0_2, hostOps0_3, hostOps0_4,
    StableHlo.TRef.binary, StableHlo.TRef.nullary, StableHlo.TRef.ternary, StableHlo.TRef.unary, StableHlo.TRef.toBuf, StableHlo.TRef.ofBuf, cast_eq]
  after_results_simp <;> rfl

/-- Eight columns of the padded weight, from 3072, are the argument's from 2048. -/
theorem at_v6_gate (c : Dev nD) (k : Fin 1024) (j : Fin 3200) (hj : 3072 ≤ j.val) (hj' : j.val < 3080) :
    V m c main_v6 (ix2 k j) = m ((c : Thread nD τ).loc main_arg4) (ix2 k ⟨j.val - 1024, by omega⟩) := by
  rw [V_v6]; pointwise; rw [dif_neg (by omega), dif_neg (by omega), dif_pos (by omega)]
  exact congrArg (fun q => m ((c : Thread nD τ).loc main_arg4) (ix2 k q)) (Fin.ext (by show 2048 + (j.val - 2048 - 1024) = j.val - 1024; omega))

/-- The convolution weight's block is whole, and the first three results' blocks go by the point's tile. -/
theorem idx_facts' : ∀ t : Fin cfg0.N,
    (win0_5.index t (0 : Fin 2) = 0 ∧ win0_5.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

theorem blk5 (c : Dev nD) (t : Fin cfg0.N) (k : Fin 4) (j : Fin 1536) :
    iblk m c 5 t (ix2 k j) = m ((c : Thread nD τ).loc main_arg5) (ix2 k j) := by
  obtain ⟨⟨h, h'⟩, -⟩ := idx_facts' t
  show V m c main_arg5 (((cfg0.win 5).blk t).view.emb (ix2 k j)) = _
  rw [V_arg5]
  congr 1; funext a; apply Fin.ext
  match a with
  | ⟨0, _⟩ => show win0_5.index t (0 : Fin 2) * 4 + 1 * k.val = k.val; rw [h]; omega
  | ⟨1, _⟩ => show win0_5.index t (1 : Fin 2) * 1536 + 1 * j.val = j.val; rw [h']; omega

/-- The columns before 1536 and the 128 from 3072 of the padded weight, and the first 1536 columns of the projection. -/
def colsP (c : Dev nD) (t : Fin cfg0.N) : Vec Ideal S1024x1536 .bf16 := View.ld (iblk m c 4 t) (Rect.unit (s := S1024x3200) ![0, 0] S1024x1536.size inb_S1024x3200_S1024x1536_0_0)
def colsB (c : Dev nD) (t : Fin cfg0.N) : Vec Ideal S1024x128 .bf16 := View.ld (iblk m c 4 t) (Rect.unit (s := S1024x3200) ![0, 3072] S1024x128.size inb_S1024x3200_S1024x128_0_3072)
def preOf (c : Dev nD) (t : Fin cfg0.N) : FVec Ideal S512x1536 .f32 := k0_pay3 (iblk m c 0 t) (iblk m c 1 t) (iblk m c 2 t) (iblk m c 3 t) (colsP m c t)
def gatesOf (c : Dev nD) (t : Fin cfg0.N) : FVec Ideal S512x128 .f32 := k0_pay10 (rowsOf m c t) (colsB m c t)
/-- The tile after the convolution and silu, the rows before it taken from `H`. -/
def actOf (c : Dev nD) (t : Fin cfg0.N) (H : FVec Ideal S8x1536 .f32) : FVec Ideal S512x1536 .f32 :=
  k0_pay8 H (iblk m c 5 t) (iota .tc S8x1536 32 [0] iota_S8x1536_d0_w32) (k0_pay6 (preOf m c t) H (iblk m c 5 t)) (k0_pay7 (preOf m c t)) 3#32

theorem carried_A (c : Dev nD) (t : Fin cfg0.N) (h0 : t.val % 8 = 0) : (outsAt0 m c t.val t.isLt).2.2.2.2.2.2.2.2 = k0_pay5 (preOf m c t) := by
  rw [outsAt0_A m c t h0]
  frame_out
  rfl

theorem carried_B (c : Dev nD) (t : Fin cfg0.N) (h0 : ¬t.val % 8 = 0) : (outsAt0 m c t.val t.isLt).2.2.2.2.2.2.2.2 = k0_pay5 (preOf m c t) := by
  rw [outsAt0_B m c t h0]
  frame_out
  rfl

theorem carried (c : Dev nD) (t : Fin cfg0.N) : (outsAt0 m c t.val t.isLt).2.2.2.2.2.2.2.2 = k0_pay5 (preOf m c t) := by
  by_cases h0 : t.val % 8 = 0
  · exact carried_A m c t h0
  · exact carried_B m c t h0

/-- The rows before point `t`'s tile: zero at a sequence's start, else the last eight of the tile before. -/
def haloOf (c : Dev nD) (t : Fin cfg0.N) : FVec Ideal S8x1536 .f32 :=
  if t.val % 8 = 0 then k0_pay4 else k0_pay5 (preOf m c ⟨t.val - 1, Nat.lt_of_le_of_lt (Nat.sub_le _ _) t.isLt⟩)

theorem read_kept {κ : Kind} (b : Ref sig κ) (h : (Memref.whole b).IsWhole) (X : b.ty.shape.Idx → Elt Ideal b.ty.elt) :
    View.read (Elt Ideal) (View.whole b) (h.unread X) = X :=
  h.read_unread X

theorem tile_place (f : Fin 4 → Fin 512 → Fin 128 → EReal) (a : Fin 4) (x0 : Fin 512) (x1 : Fin 128) (p d : Fin 512)
    (hp : p.val = x0.val) (hd : d.val = 128 * a.val + x1.val) : f a x0 x1 = f (group d) p (inGroup d) := by
  have e0 : x0 = p := Fin.ext hp.symm
  have e1 : a = group d := Fin.ext (by show a.val = d.val / 128; omega)
  have e2 : x1 = inGroup d := Fin.ext (by show x1.val = d.val % 128; omega)
  rw [e0, ← e1, ← e2]

theorem q_A (c : Dev nD) (t : Fin cfg0.N) (h0 : t.val % 8 = 0) (p d : Fin 512) :
    (outsAt0 m c t.val t.isLt).1 (ix2 p d) = qTile (actOf m c t (haloOf m c t)) (group d) p (inGroup d) := by
  have hH : haloOf m c t = k0_pay4 := if_pos h0
  rw [hH, outsAt0_A m c t h0]
  frame_out
  canon_tiles x h
  · idx_vars x; exact (q3_at _ x0 x1).trans (tile_place (qTile (actOf m c t k0_pay4)) 3 x0 x1 p d (by show p.val = x0.val; omega) (by show d.val = 128 * 3 + x1.val; omega))
  · idx_vars x; exact (q2_at _ x0 x1).trans (tile_place (qTile (actOf m c t k0_pay4)) 2 x0 x1 p d (by show p.val = x0.val; omega) (by show d.val = 128 * 2 + x1.val; omega))
  · idx_vars x; exact (q1_at _ x0 x1).trans (tile_place (qTile (actOf m c t k0_pay4)) 1 x0 x1 p d (by show p.val = x0.val; omega) (by show d.val = 128 * 1 + x1.val; omega))
  · idx_vars x; exact (q0_at _ x0 x1).trans (tile_place (qTile (actOf m c t k0_pay4)) 0 x0 x1 p d (by show p.val = x0.val; omega) (by show d.val = 128 * 0 + x1.val; omega))

theorem q_B (c : Dev nD) (t : Fin cfg0.N) (h0 : ¬t.val % 8 = 0) (p d : Fin 512) :
    (outsAt0 m c t.val t.isLt).1 (ix2 p d) = qTile (actOf m c t (haloOf m c t)) (group d) p (inGroup d) := by
  have hH : haloOf m c t = k0_pay5 (preOf m c ⟨t.val - 1, Nat.lt_of_le_of_lt (Nat.sub_le _ _) t.isLt⟩) := if_neg h0
  rw [hH, outsAt0_B m c t h0, carried m c ⟨t.val - 1, Nat.lt_of_le_of_lt (Nat.sub_le _ _) t.isLt⟩]
  frame_out
  simp only [read_kept]
  canon_tiles x h
  · idx_vars x; exact (q3_at _ x0 x1).trans (tile_place (qTile (actOf m c t (k0_pay5 (preOf m c ⟨t.val - 1, Nat.lt_of_le_of_lt (Nat.sub_le _ _) t.isLt⟩)))) 3 x0 x1 p d (by show p.val = x0.val; omega) (by show d.val = 128 * 3 + x1.val; omega))
  · idx_vars x; exact (q2_at _ x0 x1).trans (tile_place (qTile (actOf m c t (k0_pay5 (preOf m c ⟨t.val - 1, Nat.lt_of_le_of_lt (Nat.sub_le _ _) t.isLt⟩)))) 2 x0 x1 p d (by show p.val = x0.val; omega) (by show d.val = 128 * 2 + x1.val; omega))
  · idx_vars x; exact (q1_at _ x0 x1).trans (tile_place (qTile (actOf m c t (k0_pay5 (preOf m c ⟨t.val - 1, Nat.lt_of_le_of_lt (Nat.sub_le _ _) t.isLt⟩)))) 1 x0 x1 p d (by show p.val = x0.val; omega) (by show d.val = 128 * 1 + x1.val; omega))
  · idx_vars x; exact (q0_at _ x0 x1).trans (tile_place (qTile (actOf m c t (k0_pay5 (preOf m c ⟨t.val - 1, Nat.lt_of_le_of_lt (Nat.sub_le _ _) t.isLt⟩)))) 0 x0 x1 p d (by show p.val = x0.val; omega) (by show d.val = 128 * 0 + x1.val; omega))

theorem kb_A (c : Dev nD) (t : Fin cfg0.N) (h0 : t.val % 8 = 0) (p d : Fin 512) :
    (outsAt0 m c t.val t.isLt).2.1 (ix2 p d) = kTile (actOf m c t (haloOf m c t)) (gatesOf m c t) (group d) p (inGroup d) := by
  have hH : haloOf m c t = k0_pay4 := if_pos h0
  rw [hH, outsAt0_A m c t h0]
  frame_out
  canon_tiles x h
  · idx_vars x; exact (kb3_at _ _ x0 x1).trans (tile_place (kTile (actOf m c t k0_pay4) (gatesOf m c t)) 3 x0 x1 p d (by show p.val = x0.val; omega) (by show d.val = 128 * 3 + x1.val; omega))
  · idx_vars x; exact (kb2_at _ _ x0 x1).trans (tile_place (kTile (actOf m c t k0_pay4) (gatesOf m c t)) 2 x0 x1 p d (by show p.val = x0.val; omega) (by show d.val = 128 * 2 + x1.val; omega))
  · idx_vars x; exact (kb1_at _ _ x0 x1).trans (tile_place (kTile (actOf m c t k0_pay4) (gatesOf m c t)) 1 x0 x1 p d (by show p.val = x0.val; omega) (by show d.val = 128 * 1 + x1.val; omega))
  · idx_vars x; exact (kb0_at _ _ x0 x1).trans (tile_place (kTile (actOf m c t k0_pay4) (gatesOf m c t)) 0 x0 x1 p d (by show p.val = x0.val; omega) (by show d.val = 128 * 0 + x1.val; omega))

theorem kb_B (c : Dev nD) (t : Fin cfg0.N) (h0 : ¬t.val % 8 = 0) (p d : Fin 512) :
    (outsAt0 m c t.val t.isLt).2.1 (ix2 p d) = kTile (actOf m c t (haloOf m c t)) (gatesOf m c t) (group d) p (inGroup d) := by
  have hH : haloOf m c t = k0_pay5 (preOf m c ⟨t.val - 1, Nat.lt_of_le_of_lt (Nat.sub_le _ _) t.isLt⟩) := if_neg h0
  rw [hH, outsAt0_B m c t h0, carried m c ⟨t.val - 1, Nat.lt_of_le_of_lt (Nat.sub_le _ _) t.isLt⟩]
  frame_out
  simp only [read_kept]
  canon_tiles x h
  · idx_vars x; exact (kb3_at _ _ x0 x1).trans (tile_place (kTile (actOf m c t (k0_pay5 (preOf m c ⟨t.val - 1, Nat.lt_of_le_of_lt (Nat.sub_le _ _) t.isLt⟩))) (gatesOf m c t)) 3 x0 x1 p d (by show p.val = x0.val; omega) (by show d.val = 128 * 3 + x1.val; omega))
  · idx_vars x; exact (kb2_at _ _ x0 x1).trans (tile_place (kTile (actOf m c t (k0_pay5 (preOf m c ⟨t.val - 1, Nat.lt_of_le_of_lt (Nat.sub_le _ _) t.isLt⟩))) (gatesOf m c t)) 2 x0 x1 p d (by show p.val = x0.val; omega) (by show d.val = 128 * 2 + x1.val; omega))
  · idx_vars x; exact (kb1_at _ _ x0 x1).trans (tile_place (kTile (actOf m c t (k0_pay5 (preOf m c ⟨t.val - 1, Nat.lt_of_le_of_lt (Nat.sub_le _ _) t.isLt⟩))) (gatesOf m c t)) 1 x0 x1 p d (by show p.val = x0.val; omega) (by show d.val = 128 * 1 + x1.val; omega))
  · idx_vars x; exact (kb0_at _ _ x0 x1).trans (tile_place (kTile (actOf m c t (k0_pay5 (preOf m c ⟨t.val - 1, Nat.lt_of_le_of_lt (Nat.sub_le _ _) t.isLt⟩))) (gatesOf m c t)) 0 x0 x1 p d (by show p.val = x0.val; omega) (by show d.val = 128 * 0 + x1.val; omega))

theorem vb_A (c : Dev nD) (t : Fin cfg0.N) (h0 : t.val % 8 = 0) (p d : Fin 512) :
    (outsAt0 m c t.val t.isLt).2.2.1 (ix2 p d) = vTile (actOf m c t (haloOf m c t)) (gatesOf m c t) (group d) p (inGroup d) := by
  have hH : haloOf m c t = k0_pay4 := if_pos h0
  rw [hH, outsAt0_A m c t h0]
  frame_out
  canon_tiles x h
  · idx_vars x; exact (vb3_at _ _ x0 x1).trans (tile_place (vTile (actOf m c t k0_pay4) (gatesOf m c t)) 3 x0 x1 p d (by show p.val = x0.val; omega) (by show d.val = 128 * 3 + x1.val; omega))
  · idx_vars x; exact (vb2_at _ _ x0 x1).trans (tile_place (vTile (actOf m c t k0_pay4) (gatesOf m c t)) 2 x0 x1 p d (by show p.val = x0.val; omega) (by show d.val = 128 * 2 + x1.val; omega))
  · idx_vars x; exact (vb1_at _ _ x0 x1).trans (tile_place (vTile (actOf m c t k0_pay4) (gatesOf m c t)) 1 x0 x1 p d (by show p.val = x0.val; omega) (by show d.val = 128 * 1 + x1.val; omega))
  · idx_vars x; exact (vb0_at _ _ x0 x1).trans (tile_place (vTile (actOf m c t k0_pay4) (gatesOf m c t)) 0 x0 x1 p d (by show p.val = x0.val; omega) (by show d.val = 128 * 0 + x1.val; omega))

theorem vb_B (c : Dev nD) (t : Fin cfg0.N) (h0 : ¬t.val % 8 = 0) (p d : Fin 512) :
    (outsAt0 m c t.val t.isLt).2.2.1 (ix2 p d) = vTile (actOf m c t (haloOf m c t)) (gatesOf m c t) (group d) p (inGroup d) := by
  have hH : haloOf m c t = k0_pay5 (preOf m c ⟨t.val - 1, Nat.lt_of_le_of_lt (Nat.sub_le _ _) t.isLt⟩) := if_neg h0
  rw [hH, outsAt0_B m c t h0, carried m c ⟨t.val - 1, Nat.lt_of_le_of_lt (Nat.sub_le _ _) t.isLt⟩]
  frame_out
  simp only [read_kept]
  canon_tiles x h
  · idx_vars x; exact (vb3_at _ _ x0 x1).trans (tile_place (vTile (actOf m c t (k0_pay5 (preOf m c ⟨t.val - 1, Nat.lt_of_le_of_lt (Nat.sub_le _ _) t.isLt⟩))) (gatesOf m c t)) 3 x0 x1 p d (by show p.val = x0.val; omega) (by show d.val = 128 * 3 + x1.val; omega))
  · idx_vars x; exact (vb2_at _ _ x0 x1).trans (tile_place (vTile (actOf m c t (k0_pay5 (preOf m c ⟨t.val - 1, Nat.lt_of_le_of_lt (Nat.sub_le _ _) t.isLt⟩))) (gatesOf m c t)) 2 x0 x1 p d (by show p.val = x0.val; omega) (by show d.val = 128 * 2 + x1.val; omega))
  · idx_vars x; exact (vb1_at _ _ x0 x1).trans (tile_place (vTile (actOf m c t (k0_pay5 (preOf m c ⟨t.val - 1, Nat.lt_of_le_of_lt (Nat.sub_le _ _) t.isLt⟩))) (gatesOf m c t)) 1 x0 x1 p d (by show p.val = x0.val; omega) (by show d.val = 128 * 1 + x1.val; omega))
  · idx_vars x; exact (vb0_at _ _ x0 x1).trans (tile_place (vTile (actOf m c t (k0_pay5 (preOf m c ⟨t.val - 1, Nat.lt_of_le_of_lt (Nat.sub_le _ _) t.isLt⟩))) (gatesOf m c t)) 0 x0 x1 p d (by show p.val = x0.val; omega) (by show d.val = 128 * 0 + x1.val; omega))

theorem pre_sum (x : Vec Ideal S512x1024 .f32) (w : Vec Ideal S1x1024 .f32) (s u : Vec Ideal S1x1x1024 .f32) (y : Vec Ideal S1024x1536 .bf16) (p : Fin 512) (j : Fin 1536) :
    k0_pay3 x w s u y (ix2 p j) = ∑ k, k0_pay2 x w s u (ix2 p k) * y (ix2 k j) := by
  unfold k0_pay3
  generalize k0_pay2 x w s u = h
  pointwise

theorem last_rows (P : FVec Ideal S512x1536 .f32) (q : Fin 8) (j : Fin 1536) : k0_pay5 P (ix2 q j) = P (ix2 ⟨504 + q.val, by omega⟩ j) := by
  pointwise [k0_pay5]

theorem no_rows (q : Fin 8) (j : Fin 1536) : (k0_pay4 : FVec Ideal S8x1536 .f32) (ix2 q j) = 0 := by
  pointwise [k0_pay4]

theorem colsP_at (c : Dev nD) (t : Fin cfg0.N) (k : Fin 1024) (j : Fin 1536) :
    colsP m c t (ix2 k j) = m ((c : Thread nD τ).loc main_arg4) (ix2 k ⟨j.val, by omega⟩) := by
  refine (View.ld_unit_apply_of _ _ _ _ _ (ix2 k ⟨j.val, by omega⟩) fun a => ?_).trans ((blk4 m c t _ _).trans (at_v6_lo m c k _ (by show j.val < 2048; omega)))
  match a with
  | ⟨0, _⟩ => show k.val = 0 + k.val; omega
  | ⟨1, _⟩ => show j.val = 0 + j.val; omega

theorem colsB_at (c : Dev nD) (t : Fin cfg0.N) (k : Fin 1024) (a : Fin 4) :
    colsB m c t (ix2 k (headLane a)) = m ((c : Thread nD τ).loc main_arg4) (ix2 k ⟨2048 + a.val, by omega⟩) := by
  refine (View.ld_unit_apply_of _ _ _ _ _ (ix2 k ⟨3072 + a.val, by omega⟩) fun i => ?_).trans ((blk4 m c t _ _).trans
    ((at_v6_gate m c k _ (by show 3072 ≤ 3072 + a.val; omega) (by show 3072 + a.val < 3080; omega)).trans
      (congrArg (fun q => m ((c : Thread nD τ).loc main_arg4) (ix2 k q)) (Fin.ext (by show 3072 + a.val - 1024 = 2048 + a.val; omega)))))
  match i with
  | ⟨0, _⟩ => show k.val = 0 + k.val; omega
  | ⟨1, _⟩ => show 3072 + a.val = 3072 + a.val; rfl

theorem gates_at (c : Dev nD) (t : Fin cfg0.N) (p : Fin 512) (a : Fin 4) :
    gatesOf m c t (ix2 p (headLane a)) = betaOf (proj m c (row t p) ⟨2048 + a.val, by omega⟩) := by
  unfold gatesOf
  rw [beta_at]
  have h : ∀ k, rowsOf m c t (ix2 p k) = normed m c (row t p) k := normed_at m c t p
  simp only [h, colsB_at]
  rfl

theorem pre_at (c : Dev nD) (t : Fin cfg0.N) (p : Fin 512) (j : Fin 1536) :
    preOf m c t (ix2 p j) = proj m c (row t p) ⟨j.val, by omega⟩ := by
  have h : ∀ k, k0_pay2 (iblk m c 0 t) (iblk m c 1 t) (iblk m c 2 t) (iblk m c 3 t) (ix2 p k) = normed m c (row t p) k := normed_at m c t p
  unfold preOf
  rw [pre_sum]
  simp only [h, colsP_at]
  rfl

/-- Column `j` of the projection `s` tokens before token `r`, zero before its sequence's start. -/
def lag (c : Dev nD) (r : Fin 65536) (j : Fin 1536) (s : Nat) : EReal :=
  if r.val % 4096 < s then 0 else proj m c ⟨r.val - s, by omega⟩ ⟨j.val, by omega⟩

theorem shift_at (c : Dev nD) (t : Fin cfg0.N) (s : Nat) (hs : s ≤ 3) (p : Fin 512) (j : Fin 1536) :
    shiftAt (preOf m c t) (haloOf m c t) s p j = lag m c (row t p) j s := by
  have hr : (row t p).val = 512 * t.val + p.val := rfl
  unfold shiftAt lag
  by_cases hp : p.val < s
  · rw [if_pos hp]
    by_cases h0 : t.val % 8 = 0
    · rw [if_pos (by rw [hr]; omega), show haloOf m c t = k0_pay4 from if_pos h0]
      exact no_rows _ _
    · rw [if_neg (by rw [hr]; omega), show haloOf m c t = _ from if_neg h0, last_rows, pre_at]
      congr 1
      apply Fin.ext
      show 512 * (t.val - 1) + (504 + (p.val + 8 - s) % 8) = 512 * t.val + p.val - s
      omega
  · rw [if_neg hp, if_neg (by rw [hr]; omega), pre_at]
    congr 1
    apply Fin.ext
    show 512 * t.val + (p.val - s) = 512 * t.val + p.val - s
    omega

/-- Entry `j` of token `r` after the convolution and silu. -/
def act (c : Dev nD) (r : Fin 65536) (j : Fin 1536) : EReal :=
  siluOf (convOf (proj m c r ⟨j.val, by omega⟩) (lag m c r j 1) (lag m c r j 2) (lag m c r j 3)
    (fun k => m ((c : Thread nD τ).loc main_arg5) (ix2 k j)))

theorem tile_act (c : Dev nD) (t : Fin cfg0.N) (p : Fin 512) (j : Fin 1536) :
    actOf m c t (haloOf m c t) (ix2 p j) = act m c (row t p) j := by
  unfold actOf
  rw [act_at, pre_at, shift_at m c t 1 (by omega), shift_at m c t 2 (by omega), shift_at m c t 3 (by omega)]
  simp only [blk5]
  rfl

/-- The first three results, every token's row. -/
def Gq (c : Dev nD) : Vec Ideal S65536x512 .bf16 := fun i =>
  headUnit (fun k => act m c (i 0) (headCol 0 (by omega) (group (i 1)) k)) (inGroup (i 1)) * Ideal.ofBits .f32 0x3DB504F3#32

def Gkb (c : Dev nD) : Vec Ideal S65536x512 .bf16 := fun i =>
  headUnit (fun k => act m c (i 0) (headCol 512 (by omega) (group (i 1)) k)) (inGroup (i 1))
    * betaOf (proj m c (i 0) ⟨2048 + (group (i 1)).val, by omega⟩)

def Gvb (c : Dev nD) : Vec Ideal S65536x512 .bf16 := fun i =>
  act m c (i 0) (headCol 1024 (by omega) (group (i 1)) (inGroup (i 1))) * betaOf (proj m c (i 0) ⟨2048 + (group (i 1)).val, by omega⟩)

theorem q_block (c : Dev nD) (t : Fin cfg0.N) (p d : Fin 512) : (outsAt0 m c t.val t.isLt).1 (ix2 p d) = Gq m c (ix2 (row t p) d) := by
  have h : qTile (actOf m c t (haloOf m c t)) (group d) p (inGroup d) = Gq m c (ix2 (row t p) d) := by
    unfold qTile
    simp only [tile_act]
    rfl
  by_cases h0 : t.val % 8 = 0
  · exact (q_A m c t h0 p d).trans h
  · exact (q_B m c t h0 p d).trans h

theorem kb_block (c : Dev nD) (t : Fin cfg0.N) (p d : Fin 512) : (outsAt0 m c t.val t.isLt).2.1 (ix2 p d) = Gkb m c (ix2 (row t p) d) := by
  have h : kTile (actOf m c t (haloOf m c t)) (gatesOf m c t) (group d) p (inGroup d) = Gkb m c (ix2 (row t p) d) := by
    unfold kTile
    simp only [tile_act, gates_at]
    rfl
  by_cases h0 : t.val % 8 = 0
  · exact (kb_A m c t h0 p d).trans h
  · exact (kb_B m c t h0 p d).trans h

theorem vb_block (c : Dev nD) (t : Fin cfg0.N) (p d : Fin 512) : (outsAt0 m c t.val t.isLt).2.2.1 (ix2 p d) = Gvb m c (ix2 (row t p) d) := by
  have h : vTile (actOf m c t (haloOf m c t)) (gatesOf m c t) (group d) p (inGroup d) = Gvb m c (ix2 (row t p) d) := by
    unfold vTile
    simp only [tile_act, gates_at]
    rfl
  by_cases h0 : t.val % 8 = 0
  · exact (vb_A m c t h0 p d).trans h
  · exact (vb_B m c t h0 p d).trans h

end Cert.InprojIdeal.Layer

end
-- ==== Proof.InprojRef.lean ====
module

public import proofs.«01_k».proof.Proof.Gen.InprojRefIdeal.Run
public import proofs.«01_k».proof.Proof.InprojConv
public import proofs.«01_k».proof.Proof.Common

@[expose] public section

set_option maxRecDepth 16384

noncomputable section

namespace Cert.InprojRefIdeal.Layer

open Cert.InprojRefIdeal Cert.InprojRefIdeal.Gen Cert.InprojRefIdeal.Value Cert.Layer Idealize.ShloMosaic Idealize.ShloMosaic.TcCoe Idealize.SL.Sem

/-- Splitting positions into chunks and units into groups. -/
theorem split_apply {α : Type} (x : S16x4096x512.Idx → α) (b : Fin 16) (n : Fin 32) (s : Fin 128) (g : Fin 4) (e : Fin 128) :
    shapeCast S16x32x128x4x128 x shapeCasts_S16x4096x512_S16x32x128x4x128 (ix5 b n s g e) = x (ix3 b (posOf n s) (unitOf g e)) := by
  refine congrArg x (Shape.reshapeEquiv_eq_of_vals _ _ _ _ _ (rowMajor_val3 _ (4096 * 512) 512 rfl rfl) (rowMajor_val5 _ (32 * 128 * 512) (128 * 512) 512 128 rfl rfl rfl rfl) ?_)
  show b.val * (4096 * 512) + (128 * n.val + s.val) * 512 + (128 * g.val + e.val) = b.val * (32 * 128 * 512) + n.val * (128 * 512) + s.val * 512 + g.val * 128 + e.val
  omega

/-- Joining them again, tokens laid end to end. -/
theorem join_apply {α : Type} (x : S16x32x128x4x128.Idx → α) (r : Fin 65536) (d : Fin 512) :
    shapeCast S65536x512 x shapeCasts_S16x32x128x4x128_S65536x512 (ix2 r d) = x (ix5 (batch r) (chunk r) (inChunk r) (group d) (inGroup d)) := by
  refine congrArg x (Shape.reshapeEquiv_eq_of_vals _ _ _ _ _ (rowMajor_val5 _ (32 * 128 * 512) (128 * 512) 512 128 rfl rfl rfl rfl) (rowMajor_val2 _ 512 rfl) ?_)
  show r.val / 4096 * (32 * 128 * 512) + r.val % 4096 / 128 * (128 * 512) + r.val % 128 * 512 + d.val / 128 * 128 + d.val % 128 = r.val * 512 + d.val
  omega

/-- The gate's product with the mix of the chunk's rows and the bias. -/
theorem mix_apply (u v : FVec Ideal S16x4096x512 .f32) (w : FVec Ideal S4x128x128 .f32) (b : FVec Ideal S4x128 .f32) (r : Fin 65536) (d : Fin 512) :
    (truncf .bf16 (shapeCast S65536x512 (mulf (shapeCast S16x32x128x4x128 u shapeCasts_S16x4096x512_S16x32x128x4x128)
        (addf (transpose S16x32x128x4x128 [1, 2, 4, 0, 3]
          (Host.dotGeneral dot_S16x32x128x4x128_S4x128x128_S4x16x32x128x128_2_2_014_1_3_0 none (shapeCast S16x32x128x4x128 v shapeCasts_S16x4096x512_S16x32x128x4x128) w : FVec Ideal S4x16x32x128x128 .f32)
          transposes_S4x16x32x128x128_S16x32x128x4x128_1_2_4_0_3)
        (broadcastInDim S16x32x128x4x128 ![0, 1, 2, 3, 4] bcast_S1x1x128x4x1_S16x32x128x4x128_0_1_2_3_4
          (broadcastInDim S1x1x128x4x1 ![2, 3] bcast_S128x4_S1x1x128x4x1_2_3 (transpose S128x4 [1, 0] b transposes_S4x128_S128x4_1_0)))))
      shapeCasts_S16x32x128x4x128_S65536x512) bitsLt_bf16_f32 : FVec Ideal S65536x512 .bf16) (ix2 r d)
    = u (ix3 (batch r) (posOf (chunk r) (inChunk r)) (unitOf (group d) (inGroup d)))
      * ((∑ s : Fin 128, v (ix3 (batch r) (posOf (chunk r) s) (unitOf (group d) (inGroup d))) * w (ix3 (group d) (inChunk r) s)) + b (ix2 (group d) (inChunk r))) := by
  rw [truncf_apply]
  refine (congrArg _ (join_apply _ r d)).trans ?_
  generalize batch r = B
  generalize chunk r = N
  generalize inChunk r = T
  generalize group d = g
  generalize inGroup d = e
  have hu := split_apply u B N T g e
  have hv := fun s => split_apply v B N s g e
  generalize shapeCast S16x32x128x4x128 u shapeCasts_S16x4096x512_S16x32x128x4x128 = U at hu ⊢
  generalize shapeCast S16x32x128x4x128 v shapeCasts_S16x4096x512_S16x32x128x4x128 = W at hv ⊢
  pointwise
  rw [hu]
  simp only [hv]

/-- Row `(b, p)` of the normalised input. -/
def norm3 (m : (ℓ : Loc nD τ sig) → Buf (Elt Ideal) ℓ) (c : Dev nD) (b : Fin 16) (p : Fin 4096) : Fin 1024 → EReal :=
  normRow (fun k => m ((c : Thread nD τ).loc main_arg0) (ix3 b p k)) (fun k => m ((c : Thread nD τ).loc main_arg1) (ix1 k))
    (fun k => m ((c : Thread nD τ).loc main_arg2) (ix2 b k)) (fun k => m ((c : Thread nD τ).loc main_arg3) (ix2 b k))

/-- Column `j` of its projection. -/
def proj3 (m : (ℓ : Loc nD τ sig) → Buf (Elt Ideal) ℓ) (c : Dev nD) (b : Fin 16) (p : Fin 4096) (j : Fin 3080) : EReal :=
  ∑ k, norm3 m c b p k * m ((c : Thread nD τ).loc main_arg4) (ix2 k j)

/-- The projection as the reference computes it. -/
def projTerm (m : (ℓ : Loc nD τ sig) → Buf (Elt Ideal) ℓ) (c : Dev nD) : FVec Ideal S16x4096x3080 .f32 :=
  Host.dotGeneral (φ₂ := .f32) dot_S16x4096x1024_S1024x3080_S16x4096x3080_2_0_01_1_n_n none (addf (mulf (mulf (mulf (m ((c.tc : Thread nD τ).loc main_arg0)) (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf (m ((c.tc : Thread nD τ).loc main_arg0)) (m ((c.tc : Thread nD τ).loc main_arg0))) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (m ((c.tc : Thread nD τ).loc main_arg1))))) (broadcastInDim S16x4096x1024 ![0, 1, 2] bcast_S16x1x1024_S16x4096x1024_0_1_2 (addf (broadcastInDim S16x1x1024 ![] bcast_S_S16x1x1024 (constant S_ .f32 0x3F800000#32)) (broadcastInDim S16x1x1024 ![0, 2] bcast_S16x1024_S16x1x1024_0_2 (m ((c.tc : Thread nD τ).loc main_arg3)))))) (broadcastInDim S16x4096x1024 ![0, 1, 2] bcast_S16x1x1024_S16x4096x1024_0_1_2 (broadcastInDim S16x1x1024 ![0, 2] bcast_S16x1024_S16x1x1024_0_2 (m ((c.tc : Thread nD τ).loc main_arg2))))) (m ((c.tc : Thread nD τ).loc main_arg4) : FVec Ideal S1024x3080 .f32)

theorem proj_apply (m : (ℓ : Loc nD τ sig) → Buf (Elt Ideal) ℓ) (c : Dev nD) (b : Fin 16) (p : Fin 4096) (j : Fin 3080) :
    projTerm m c (ix3 b p j) = proj3 m c b p j := by
  unfold projTerm
  pointwise
  rfl

/-- The silu of 512 columns. -/
theorem silu_apply (P : FVec Ideal S16x4096x3080 .f32) (r : Fin 65536) (d : Fin 512) :
    (truncf .bf16 (shapeCast S65536x512 (mulf (extractStridedSlice S16x4096x512 ![0, 0, 1536] P slices_S16x4096x3080_S16x4096x512_0_0_1536) (Host.divf (broadcastInDim S16x4096x512 ![] bcast_S_S16x4096x512 (constant S_ .f32 0x3F800000#32)) (addf (broadcastInDim S16x4096x512 ![] bcast_S_S16x4096x512 (constant S_ .f32 0x3F800000#32)) (Host.exp (Host.negf (extractStridedSlice S16x4096x512 ![0, 0, 1536] P slices_S16x4096x3080_S16x4096x512_0_0_1536)))))) shapeCasts_S16x4096x512_S65536x512) bitsLt_bf16_f32 : FVec Ideal S65536x512 .bf16) (ix2 r d)
      = siluOf (P (ix3 (batch r) (pos r) ⟨1536 + d.val, by omega⟩)) := by
  rw [truncf_apply]
  refine (congrArg _ (flat_apply _ _ r d)).trans ?_
  pointwise [siluOf]

/-- The gelu of 512 columns. -/
def geluTerm (X : FVec Ideal S16x4096x512 .f32) : FVec Ideal S16x4096x512 .f32 :=
  mulf X (mulf (broadcastInDim S16x4096x512 ![] bcast_S_S16x4096x512 (constant S_ .f32 0x3F000000#32)) (addf (broadcastInDim S16x4096x512 ![] bcast_S_S16x4096x512 (constant S_ .f32 0x3F800000#32)) (Host.tanh (mulf (broadcastInDim S16x4096x512 ![] bcast_S_S16x4096x512 (constant S_ .f32 0x3F4C422A#32)) (addf X (mulf (broadcastInDim S16x4096x512 ![] bcast_S_S16x4096x512 (constant S_ .f32 0x3D372713#32)) (mulf (mulf X X) X)))))))

theorem gelu_apply (X : FVec Ideal S16x4096x512 .f32) (b : Fin 16) (p : Fin 4096) (d : Fin 512) :
    geluTerm X (ix3 b p d) = geluOf (X (ix3 b p d)) := by
  pointwise [geluTerm, geluOf]
  rw [← mul_assoc, mul_comm (X (ix3 b p d)) (Ideal.ofBits .f32 0x3F000000#32)]

/-- The layer norm of 512 columns. -/
def lnTerm (X : FVec Ideal S16x4096x512 .f32) (w b : FVec Ideal S512 .f32) : FVec Ideal S16x4096x512 .f32 :=
  addf (mulf (mulf (subf X (broadcastInDim S16x4096x512 ![0, 1, 2] bcast_S16x4096x1_S16x4096x512_0_1_2 (Host.divf (broadcastInDim S16x4096x1 ![0, 1] bcast_S16x4096_S16x4096x1_0_1 (Host.reduceAdd X (constant S_ .f32 0x00000000#32) reducesTo_S16x4096x512_S16x4096_d2 h_S_)) (broadcastInDim S16x4096x1 ![] bcast_S_S16x4096x1 (constant S_ .f32 0x44000000#32)))))
    (broadcastInDim S16x4096x512 ![0, 1, 2] bcast_S16x4096x1_S16x4096x512_0_1_2 (Host.rsqrt (addf (Host.divf (broadcastInDim S16x4096x1 ![0, 1] bcast_S16x4096_S16x4096x1_0_1 (Host.reduceAdd
      (mulf (subf X (broadcastInDim S16x4096x512 ![0, 1, 2] bcast_S16x4096x1_S16x4096x512_0_1_2 (Host.divf (broadcastInDim S16x4096x1 ![0, 1] bcast_S16x4096_S16x4096x1_0_1 (Host.reduceAdd X (constant S_ .f32 0x00000000#32) reducesTo_S16x4096x512_S16x4096_d2 h_S_)) (broadcastInDim S16x4096x1 ![] bcast_S_S16x4096x1 (constant S_ .f32 0x44000000#32)))))
        (subf X (broadcastInDim S16x4096x512 ![0, 1, 2] bcast_S16x4096x1_S16x4096x512_0_1_2 (Host.divf (broadcastInDim S16x4096x1 ![0, 1] bcast_S16x4096_S16x4096x1_0_1 (Host.reduceAdd X (constant S_ .f32 0x00000000#32) reducesTo_S16x4096x512_S16x4096_d2 h_S_)) (broadcastInDim S16x4096x1 ![] bcast_S_S16x4096x1 (constant S_ .f32 0x44000000#32))))))
      (constant S_ .f32 0x00000000#32) reducesTo_S16x4096x512_S16x4096_d2 h_S_)) (broadcastInDim S16x4096x1 ![] bcast_S_S16x4096x1 (constant S_ .f32 0x44000000#32))) (broadcastInDim S16x4096x1 ![] bcast_S_S16x4096x1 (constant S_ .f32 0x358637BD#32))))))
    (broadcastInDim S16x4096x512 ![0, 1, 2] bcast_S1x1x512_S16x4096x512_0_1_2 (broadcastInDim S1x1x512 ![2] bcast_S512_S1x1x512_2 w)))
    (broadcastInDim S16x4096x512 ![0, 1, 2] bcast_S1x1x512_S16x4096x512_0_1_2 (broadcastInDim S1x1x512 ![2] bcast_S512_S1x1x512_2 b))

theorem ln_apply (X : FVec Ideal S16x4096x512 .f32) (w b : FVec Ideal S512 .f32) (n : Fin 16) (p : Fin 4096) (d : Fin 512) :
    lnTerm X w b (ix3 n p d) = lnOf (fun k => X (ix3 n p k)) (fun k => w (ix1 k)) (fun k => b (ix1 k)) d := by
  pointwise [lnTerm, lnOf, meanOf]

/-- The mixing weights with the positions after the row's own set to zero. -/
def maskTerm (w : FVec Ideal S4x128x128 .f32) : FVec Ideal S4x128x128 .f32 :=
  select (broadcastInDim S4x128x128 ![1, 2] bcast_S128x128_S4x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) w (broadcastInDim S4x128x128 ![] bcast_S_S4x128x128 (id (constant S_ .f32 0x00000000#32)))

theorem mask_apply (w : FVec Ideal S4x128x128 .f32) (g : Fin 4) (t s : Fin 128) :
    maskTerm w (ix3 g t s) = upTo t s (w (ix3 g t s)) := by
  have z : id (constant S_ .f32 0x00000000#32 : FVec Ideal S_ .f32) ix0 = 0 := by rw [id_eq]; pointwise
  pointwise [maskTerm]
  rw [z]
  rfl

/-- The last two results, entry by entry. -/
def zsOf (m : (ℓ : Loc nD τ sig) → Buf (Elt Ideal) ℓ) (c : Dev nD) (r : Fin 65536) (d : Fin 512) : EReal :=
  siluOf (proj3 m c (batch r) (pos r) ⟨1536 + d.val, by omega⟩)

def ogmOf (m : (ℓ : Loc nD τ sig) → Buf (Elt Ideal) ℓ) (c : Dev nD) (r : Fin 65536) (d : Fin 512) : EReal :=
  mixOf (proj3 m c (batch r) (pos r) ⟨2056 + d.val, by omega⟩)
    (fun s => upTo (inChunk r) s (m ((c : Thread nD τ).loc main_arg10) (ix3 (group d) (inChunk r) s)))
    (fun s => lnOf (fun k => geluOf (proj3 m c (batch r) (posOf (chunk r) s) ⟨2568 + k.val, by omega⟩))
      (fun k => m ((c : Thread nD τ).loc main_arg8) (ix1 k)) (fun k => m ((c : Thread nD τ).loc main_arg9) (ix1 k)) d)
    (m ((c : Thread nD τ).loc main_arg11) (ix2 (group d) (inChunk r)))

/-- The last result as these terms. -/
def ogmTerm (m : (ℓ : Loc nD τ sig) → Buf (Elt Ideal) ℓ) (c : Dev nD) : FVec Ideal S65536x512 .bf16 :=
  truncf .bf16 (shapeCast S65536x512 (mulf
        (shapeCast S16x32x128x4x128 (geluTerm (extractStridedSlice S16x4096x512 ![0, 0, 2056] (projTerm m c) slices_S16x4096x3080_S16x4096x512_0_0_2056)) shapeCasts_S16x4096x512_S16x32x128x4x128)
        (addf (transpose S16x32x128x4x128 [1, 2, 4, 0, 3]
          (Host.dotGeneral dot_S16x32x128x4x128_S4x128x128_S4x16x32x128x128_2_2_014_1_3_0 none (shapeCast S16x32x128x4x128
            (lnTerm (geluTerm (extractStridedSlice S16x4096x512 ![0, 0, 2568] (projTerm m c) slices_S16x4096x3080_S16x4096x512_0_0_2568))
              (m ((c : Thread nD τ).loc main_arg8)) (m ((c : Thread nD τ).loc main_arg9))) shapeCasts_S16x4096x512_S16x32x128x4x128)
            (maskTerm (m ((c : Thread nD τ).loc main_arg10))) : FVec Ideal S4x16x32x128x128 .f32)
          transposes_S4x16x32x128x128_S16x32x128x4x128_1_2_4_0_3)
        (broadcastInDim S16x32x128x4x128 ![0, 1, 2, 3, 4] bcast_S1x1x128x4x1_S16x32x128x4x128_0_1_2_3_4
          (broadcastInDim S1x1x128x4x1 ![2, 3] bcast_S128x4_S1x1x128x4x1_2_3 (transpose S128x4 [1, 0] (m ((c : Thread nD τ).loc main_arg11)) transposes_S4x128_S128x4_1_0)))))
      shapeCasts_S16x32x128x4x128_S65536x512) bitsLt_bf16_f32

theorem ogm_apply (m : (ℓ : Loc nD τ sig) → Buf (Elt Ideal) ℓ) (c : Dev nD) (r : Fin 65536) (d : Fin 512) :
    ogmTerm m c (ix2 r d) = ogmOf m c r d := by
  have hp : posOf (chunk r) (inChunk r) = pos r := Fin.ext (by show 128 * (r.val % 4096 / 128) + r.val % 128 = r.val % 4096; omega)
  have hd : unitOf (group d) (inGroup d) = d := Fin.ext (by show 128 * (d.val / 128) + d.val % 128 = d.val; omega)
  unfold ogmTerm
  rw [mix_apply]
  rw [hp, hd]
  simp only [gelu_apply, ln_apply, mask_apply]
  have hs : ∀ (o : Nat) (ho : o + 512 ≤ 3080) (h : S16x4096x3080.Slices ![0, 0, o] S16x4096x512) (b : Fin 16) (p : Fin 4096) (k : Fin 512),
      extractStridedSlice S16x4096x512 ![0, 0, o] (projTerm m c) h (ix3 b p k) = proj3 m c b p ⟨o + k.val, by omega⟩ := by
    intro o ho h b p k
    rw [← proj_apply]
    pointwise
  simp only [hs 2056 (by omega), hs 2568 (by omega)]
  unfold ogmOf mixOf
  refine congrArg₂ (· * ·) rfl (congrArg₂ (· + ·) (Finset.sum_congr rfl fun s _ => mul_comm _ _) rfl)

/-- Entry `j` of the convolution's input `s` positions back, zero before the sequence. -/
def lag3 (m : (ℓ : Loc nD τ sig) → Buf (Elt Ideal) ℓ) (c : Dev nD) (b : Fin 16) (p : Fin 4096) (j : Fin 1536) (s : Nat) : EReal :=
  if p.val < s then 0 else proj3 m c b ⟨p.val - s, by omega⟩ ⟨j.val, by omega⟩

/-- Entry `j` after the convolution and silu. -/
def act3 (m : (ℓ : Loc nD τ sig) → Buf (Elt Ideal) ℓ) (c : Dev nD) (b : Fin 16) (p : Fin 4096) (j : Fin 1536) : EReal :=
  siluOf (convOf (proj3 m c b p ⟨j.val, by omega⟩) (lag3 m c b p j 1) (lag3 m c b p j 2) (lag3 m c b p j 3)
    (fun k => m ((c : Thread nD τ).loc main_arg5) (ix2 k j)))

theorem v21_eq (m : (ℓ : Loc nD τ sig) → Buf (Elt Ideal) ℓ) (c : Dev nD) : res_main_v21 (StableHlo.launchContents m c) = projTerm m c := by
  unfold res_main_v21 projTerm
  rfl

theorem v23_at (m : (ℓ : Loc nD τ sig) → Buf (Elt Ideal) ℓ) (c : Dev nD) (b : Fin 16) (q : Fin 4099) (j : Fin 1536) :
    res_main_v23 (StableHlo.launchContents m c) (ix3 b q j) = if h : 3 ≤ q.val then proj3 m c b ⟨q.val - 3, by omega⟩ ⟨j.val, by omega⟩ else 0 := by
  unfold res_main_v23
  rw [v21_eq]
  have hP := proj_apply m c
  generalize projTerm m c = P at hP ⊢
  pointwise
  by_cases h : 3 ≤ q.val
  · rw [dif_pos ⟨h, by omega⟩, dif_pos h, hP]
  · rw [dif_neg fun h' => h h'.1, dif_neg h]
    show (((0#32 : BitVec 32).toInt : ℝ) : EReal) = 0
    simp

/-- The convolution's four products, added up the other way. -/
theorem conv_comm (x0 x1 x2 x3 : EReal) (w : Fin 4 → EReal) : w 0 * x3 + w 1 * x2 + w 2 * x1 + w 3 * x0 = convOf x0 x1 x2 x3 w := by
  unfold convOf
  rw [mul_comm (w 0), mul_comm (w 1), mul_comm (w 2), mul_comm (w 3), add_comm _ (x0 * w 3), add_comm (x3 * w 0 + x2 * w 1) (x1 * w 2),
    add_comm (x3 * w 0) (x2 * w 1), ← add_assoc, ← add_assoc]

theorem v50_at (m : (ℓ : Loc nD τ sig) → Buf (Elt Ideal) ℓ) (c : Dev nD) (b : Fin 16) (p : Fin 4096) (j : Fin 1536) :
    res_main_v50 (StableHlo.launchContents m c) (ix3 b p j)
      = convOf (proj3 m c b p ⟨j.val, by omega⟩) (lag3 m c b p j 1) (lag3 m c b p j 2) (lag3 m c b p j 3) (fun k => m ((c : Thread nD τ).loc main_arg5) (ix2 k j)) := by
  unfold res_main_v50
  have hP := v23_at m c b
  generalize res_main_v23 (StableHlo.launchContents m c) = P at hP ⊢
  pointwise
  have hk : ∀ (s : Nat) (hs : s ≤ 3) (q : Fin 4099) (_ : q.val = 3 - s + p.val), P (ix3 b q j) = lag3 m c b p j s := by
    intro s hs q hq
    rw [hP]
    unfold lag3
    by_cases h : p.val < s
    · rw [if_pos h, dif_neg (by omega)]
    · rw [if_neg h, dif_pos (by omega)]
      exact congrArg (fun q => proj3 m c b q ⟨j.val, by omega⟩) (Fin.ext (by show q.val - 3 = p.val - s; omega))
  rw [hk 3 (by omega) _ (by show p.val = 3 - 3 + p.val; omega), hk 2 (by omega) _ rfl, hk 1 (by omega) _ rfl, hk 0 (by omega) _ rfl]
  unfold convOf
  generalize lag3 m c b p j 3 = x3
  generalize lag3 m c b p j 2 = x2
  generalize lag3 m c b p j 1 = x1
  exact conv_comm _ _ _ _ (fun k => m ((c : Thread nD τ).loc main_arg5) (ix2 k j))

theorem v51_at (m : (ℓ : Loc nD τ sig) → Buf (Elt Ideal) ℓ) (c : Dev nD) (b : Fin 16) (p : Fin 4096) (j : Fin 1536) :
    res_main_v51 (StableHlo.launchContents m c) (ix3 b p j) = act3 m c b p j := by
  unfold res_main_v51
  have hP := v50_at m c b p j
  generalize res_main_v50 (StableHlo.launchContents m c) = P at hP ⊢
  pointwise [act3, siluOf]
  rw [hP]

/-- Splitting units into heads, and joining them again with the tokens laid end to end. -/
theorem heads_apply {α : Type} (x : S16x4096x512.Idx → α) (b : Fin 16) (p : Fin 4096) (g : Fin 4) (e : Fin 128) :
    shapeCast S16x4096x4x128 x shapeCasts_S16x4096x512_S16x4096x4x128 (ix4 b p g e) = x (ix3 b p (unitOf g e)) := by
  refine congrArg x (Shape.reshapeEquiv_eq_of_vals _ _ _ _ _ (rowMajor_val3 _ (4096 * 512) 512 rfl rfl) (rowMajor_val4 _ (4096 * 512) 512 128 rfl rfl rfl) ?_)
  show b.val * (4096 * 512) + p.val * 512 + (128 * g.val + e.val) = b.val * (4096 * 512) + p.val * 512 + g.val * 128 + e.val
  omega

theorem tokens_apply {α : Type} (x : S16x4096x4x128.Idx → α) (r : Fin 65536) (d : Fin 512) :
    shapeCast S65536x512 x shapeCasts_S16x4096x4x128_S65536x512 (ix2 r d) = x (ix4 (batch r) (pos r) (group d) (inGroup d)) := by
  refine congrArg x (Shape.reshapeEquiv_eq_of_vals _ _ _ _ _ (rowMajor_val4 _ (4096 * 512) 512 128 rfl rfl rfl) (rowMajor_val2 _ 512 rfl) ?_)
  show r.val / 4096 * (4096 * 512) + r.val % 4096 * 512 + d.val / 128 * 128 + d.val % 128 = r.val * 512 + d.val
  omega

/-- The queries', keys' and values' head entries, and the four gates. -/
theorem v53_at (m : (ℓ : Loc nD τ sig) → Buf (Elt Ideal) ℓ) (c : Dev nD) (b : Fin 16) (p : Fin 4096) (g : Fin 4) (e : Fin 128) :
    res_main_v53 (StableHlo.launchContents m c) (ix4 b p g e) = act3 m c b p (headCol 0 (by omega) g e) := by
  unfold res_main_v53
  refine (heads_apply _ b p g e).trans ?_
  rw [← v51_at]
  generalize res_main_v51 (StableHlo.launchContents m c) = A
  pointwise [unitOf]
  exact congrArg (fun q => A (ix3 b p q)) (Fin.ext (by show 128 * g.val + e.val = 0 + 128 * g.val + e.val; omega))

theorem v55_at (m : (ℓ : Loc nD τ sig) → Buf (Elt Ideal) ℓ) (c : Dev nD) (b : Fin 16) (p : Fin 4096) (g : Fin 4) (e : Fin 128) :
    res_main_v55 (StableHlo.launchContents m c) (ix4 b p g e) = act3 m c b p (headCol 512 (by omega) g e) := by
  unfold res_main_v55
  refine (heads_apply _ b p g e).trans ?_
  rw [← v51_at]
  generalize res_main_v51 (StableHlo.launchContents m c) = A
  pointwise [unitOf]
  exact congrArg (fun q => A (ix3 b p q)) (Fin.ext (by show 512 + (128 * g.val + e.val) = 512 + 128 * g.val + e.val; omega))

theorem values_at (m : (ℓ : Loc nD τ sig) → Buf (Elt Ideal) ℓ) (c : Dev nD) (b : Fin 16) (p : Fin 4096) (g : Fin 4) (e : Fin 128) :
    shapeCast S16x4096x4x128 (extractStridedSlice S16x4096x512 ![0, 0, 1024] (res_main_v51 (StableHlo.launchContents m c)) slices_S16x4096x1536_S16x4096x512_0_0_1024) shapeCasts_S16x4096x512_S16x4096x4x128 (ix4 b p g e)
      = act3 m c b p (headCol 1024 (by omega) g e) := by
  refine (heads_apply _ b p g e).trans ?_
  rw [← v51_at]
  generalize res_main_v51 (StableHlo.launchContents m c) = A
  pointwise [unitOf]
  exact congrArg (fun q => A (ix3 b p q)) (Fin.ext (by show 1024 + (128 * g.val + e.val) = 1024 + 128 * g.val + e.val; omega))

theorem v65_at (m : (ℓ : Loc nD τ sig) → Buf (Elt Ideal) ℓ) (c : Dev nD) (b : Fin 16) (p : Fin 4096) (g : Fin 4) :
    res_main_v65 (StableHlo.launchContents m c) (ix3 b p g) = betaOf (proj3 m c b p ⟨2048 + g.val, by omega⟩) := by
  unfold res_main_v65
  rw [v21_eq, ← proj_apply]
  generalize projTerm m c = P
  pointwise [betaOf]

/-- A head's row scaled to length one. -/
def unitTerm (Q : FVec Ideal S16x4096x4x128 .f32) : FVec Ideal S16x4096x4x128 .f32 :=
  mulf Q (broadcastInDim S16x4096x4x128 ![0, 1, 2, 3] bcast_S16x4096x4x1_S16x4096x4x128_0_1_2_3 (Host.rsqrt (addf (broadcastInDim S16x4096x4x1 ![0, 1, 2] bcast_S16x4096x4_S16x4096x4x1_0_1_2 (Host.reduceAdd (mulf Q Q) (constant S_ .f32 0x00000000#32) reducesTo_S16x4096x4x128_S16x4096x4_d3 h_S_)) (broadcastInDim S16x4096x4x1 ![] bcast_S_S16x4096x4x1 (constant S_ .f32 0x358637BD#32)))))

theorem unit_apply (Q : FVec Ideal S16x4096x4x128 .f32) (b : Fin 16) (p : Fin 4096) (g : Fin 4) (e : Fin 128) :
    unitTerm Q (ix4 b p g e) = headUnit (fun k => Q (ix4 b p g k)) e := by
  pointwise [unitTerm, headUnit]

/-- The first three results. -/
theorem q_apply (Q : FVec Ideal S16x4096x4x128 .f32) (r : Fin 65536) (d : Fin 512) :
    (truncf .bf16 (shapeCast S65536x512 (mulf (unitTerm Q) (broadcastInDim S16x4096x4x128 ![] bcast_S_S16x4096x4x128 (constant S_ .f32 0x3DB504F3#32))) shapeCasts_S16x4096x4x128_S65536x512) bitsLt_bf16_f32 : FVec Ideal S65536x512 .bf16) (ix2 r d)
      = headUnit (fun k => Q (ix4 (batch r) (pos r) (group d) k)) (inGroup d) * Ideal.ofBits .f32 0x3DB504F3#32 := by
  rw [truncf_apply]
  refine (congrArg _ (tokens_apply _ r d)).trans ?_
  rw [← unit_apply]
  generalize unitTerm Q = U
  pointwise

theorem gated_apply (U : FVec Ideal S16x4096x4x128 .f32) (B : FVec Ideal S16x4096x4 .f32) (r : Fin 65536) (d : Fin 512) :
    (truncf .bf16 (shapeCast S65536x512 (mulf U (broadcastInDim S16x4096x4x128 ![0, 1, 2, 3] bcast_S16x4096x4x1_S16x4096x4x128_0_1_2_3 (broadcastInDim S16x4096x4x1 ![0, 1, 2] bcast_S16x4096x4_S16x4096x4x1_0_1_2 B))) shapeCasts_S16x4096x4x128_S65536x512) bitsLt_bf16_f32 : FVec Ideal S65536x512 .bf16) (ix2 r d)
      = U (ix4 (batch r) (pos r) (group d) (inGroup d)) * B (ix3 (batch r) (pos r) (group d)) := by
  rw [truncf_apply]
  refine (congrArg _ (tokens_apply _ r d)).trans ?_
  pointwise

end Cert.InprojRefIdeal.Layer

end
-- ==== Proof.Inproj.lean ====
module

public import proofs.«01_k».proof.Proof.Gen.InprojIdeal.Value
public import proofs.«01_k».proof.Proof.InprojHalo
public import proofs.«01_k».proof.Proof.InprojRef
public import proofs.«01_k».proof.Defs

@[expose] public section

set_option maxRecDepth 16384

noncomputable section

namespace Cert.InprojIdeal.Layer

open Cert.InprojIdeal Cert.InprojIdeal.Gen Cert.Layer Idealize.ShloMosaic Idealize.ShloMosaic.TcCoe Idealize.SL.Sem

variable (m : (ℓ : Loc nD τ sig) → Buf (Elt Ideal) ℓ)

theorem colsZ_at (c : Dev nD) (t : Fin cfg0.N) (k : Fin 1024) (d : Fin 512) :
    colsZ m c t (ix2 k d) = m ((c : Thread nD τ).loc main_arg4) (ix2 k ⟨1536 + d.val, by omega⟩) := by
  refine (View.ld_unit_apply_of _ _ _ _ _ (ix2 k ⟨1536 + d.val, by omega⟩) fun a => ?_).trans ((blk4 m c t _ _).trans (at_v6_lo m c k _ (by show 1536 + d.val < 2048; omega)))
  match a with
  | ⟨0, _⟩ => show k.val = 0 + k.val; omega
  | ⟨1, _⟩ => show 1536 + d.val = 1536 + d.val; rfl

theorem colsU_at (c : Dev nD) (t : Fin cfg0.N) (k : Fin 1024) (d : Fin 512) :
    colsU m c t (ix2 k d) = m ((c : Thread nD τ).loc main_arg4) (ix2 k ⟨2056 + d.val, by omega⟩) := by
  refine (View.ld_unit_apply_of _ _ _ _ _ (ix2 k ⟨2048 + d.val, by omega⟩) fun a => ?_).trans ((blk4 m c t _ _).trans
    ((at_v6_hi m c k _ (by show 2048 ≤ 2048 + d.val; omega) (by show 2048 + d.val < 3072; omega)).trans
      (congrArg (fun q => m ((c : Thread nD τ).loc main_arg4) (ix2 k q)) (Fin.ext (by show 2048 + d.val + 8 = 2056 + d.val; omega)))))
  match a with
  | ⟨0, _⟩ => show k.val = 0 + k.val; omega
  | ⟨1, _⟩ => show 2048 + d.val = 2048 + d.val; rfl

theorem colsV_at (c : Dev nD) (t : Fin cfg0.N) (k : Fin 1024) (d : Fin 512) :
    colsV m c t (ix2 k d) = m ((c : Thread nD τ).loc main_arg4) (ix2 k ⟨2568 + d.val, by omega⟩) := by
  refine (View.ld_unit_apply_of _ _ _ _ _ (ix2 k ⟨2560 + d.val, by omega⟩) fun a => ?_).trans ((blk4 m c t _ _).trans
    ((at_v6_hi m c k _ (by show 2048 ≤ 2560 + d.val; omega) (by show 2560 + d.val < 3072; omega)).trans
      (congrArg (fun q => m ((c : Thread nD τ).loc main_arg4) (ix2 k q)) (Fin.ext (by show 2560 + d.val + 8 = 2568 + d.val; omega)))))
  match a with
  | ⟨0, _⟩ => show k.val = 0 + k.val; omega
  | ⟨1, _⟩ => show 2560 + d.val = 2560 + d.val; rfl

theorem rowsOf_at (c : Dev nD) (t : Fin cfg0.N) (p : Fin 512) (k : Fin 1024) : rowsOf m c t (ix2 p k) = normed m c (row t p) k :=
  normed_at m c t p k

/-- The token at place `s` of token `r`'s chunk. -/
def chunkRow (r : Fin 65536) (s : Fin 128) : Fin 65536 := ⟨128 * (r.val / 128) + s.val, by omega⟩

/-- The two results, every token's row. -/
def Gzs (c : Dev nD) : Vec Ideal S65536x512 .bf16 := fun i => siluOf (proj m c (i 0) ⟨1536 + (i 1).val, by have : (i 1).val < 512 := (i 1).isLt; omega⟩)

def ogmEntry (c : Dev nD) (r : Fin 65536) (d : Fin 512) : EReal :=
  mixOf (proj m c r ⟨2056 + d.val, by omega⟩)
    (fun s => upTo (inChunk r) s (m ((c : Thread nD τ).loc main_arg10) (ix3 (group d) (inChunk r) s)))
    (fun s => lnOf (fun k => geluOf (proj m c (chunkRow r s) ⟨2568 + k.val, by omega⟩))
      (fun k => m ((c : Thread nD τ).loc main_arg8) (ix1 k)) (fun k => m ((c : Thread nD τ).loc main_arg9) (ix1 k)) d)
    (m ((c : Thread nD τ).loc main_arg11) (ix2 (group d) (inChunk r)))

def Gogm (c : Dev nD) : Vec Ideal S65536x512 .bf16 := fun i => ogmEntry m c (i 0) (i 1)

theorem zs_block (c : Dev nD) (t : Fin cfg0.N) (p d : Fin 512) :
    (outsAt0 m c t.val t.isLt).2.2.2.2.1 (ix2 p d) = Gzs m c (ix2 (row t p) d) := by
  have h : k0_pay61 (k0_pay59 (rowsOf m c t) (colsZ m c t)) (k0_pay60 (rowsOf m c t) (colsZ m c t)) (ix2 p d) = Gzs m c (ix2 (row t p) d) := by
    rw [zs_at]
    simp only [rowsOf_at, colsZ_at]
    rfl
  by_cases h0 : t.val % 8 = 0
  · rw [zs_A m c t h0]; exact h
  · rw [zs_B m c t h0]; exact h

theorem u_at (c : Dev nD) (t : Fin cfg0.N) (p d : Fin 512) : uOf m c t (ix2 p d) = geluOf (proj m c (row t p) ⟨2056 + d.val, by omega⟩) := by
  unfold uOf
  rw [gu_at]
  simp only [rowsOf_at, colsU_at]
  rfl

theorem v_at (c : Dev nD) (t : Fin cfg0.N) (p d : Fin 512) :
    vOf m c t (ix2 p d) = lnOf (fun k => geluOf (proj m c (row t p) ⟨2568 + k.val, by omega⟩))
      (fun k => m ((c : Thread nD τ).loc main_arg8) (ix1 k)) (fun k => m ((c : Thread nD τ).loc main_arg9) (ix1 k)) d := by
  unfold vOf
  rw [ln_at _ _ _ _ _ _ (fun q => sum_at _ _ q)]
  simp only [gv_at, rowsOf_at, colsV_at, blk7, blk8]
  rfl

theorem entry_at (c : Dev nD) (t : Fin cfg0.N) (p d : Fin 512) : entryOf m c t p d = Gogm m c (ix2 (row t p) d) := by
  have e : ∀ s : Fin 128, row t ⟨128 * (p.val / 128) + s.val, by omega⟩ = chunkRow (row t p) s := fun s =>
    Fin.ext (by show 512 * t.val + (128 * (p.val / 128) + s.val) = 128 * ((512 * t.val + p.val) / 128) + s.val; omega)
  have e' : (⟨p.val % 128, by omega⟩ : Fin 128) = inChunk (row t p) := Fin.ext (by show p.val % 128 = (512 * t.val + p.val) % 128; omega)
  unfold entryOf wOf bOf
  simp only [u_at, v_at, blk9, blk10, e, e']
  rfl

theorem ogm_block (c : Dev nD) (t : Fin cfg0.N) (p d : Fin 512) :
    (outsAt0 m c t.val t.isLt).2.2.2.2.2.2.2.1 (ix2 p d) = Gogm m c (ix2 (row t p) d) := by
  by_cases h0 : t.val % 8 = 0
  · exact (ogm_A m c t h0 p d).trans (entry_at m c t p d)
  · exact (ogm_B m c t h0 p d).trans (entry_at m c t p d)

theorem flushed_q (c : Dev nD) (t : Fin cfg0.N) : (dats m 0 c).flushed 11 t = ((cfg0.win 11).blk t).view.read (Elt Ideal) (Gq m c) := by
  rw [Value.flushed11]
  funext j
  idx_vars j
  obtain ⟨-, ⟨h, h'⟩, -, -⟩ := idx_facts' t
  have he : ((cfg0.win 11).blk t).view.emb (ix2 j0 j1) = ix2 (row t j0) j1 := by
    funext a; apply Fin.ext
    match a with
    | ⟨0, _⟩ => show win0_11.index t (0 : Fin 2) * 512 + 1 * j0.val = 512 * t.val + j0.val; rw [h]; omega
    | ⟨1, _⟩ => show win0_11.index t (1 : Fin 2) * 512 + 1 * j1.val = j1.val; rw [h']; omega
  show (outsAt0 m c t.val t.isLt).1 (ix2 j0 j1) = Gq m c (((cfg0.win 11).blk t).view.emb (ix2 j0 j1))
  rw [he]
  exact q_block m c t j0 j1

theorem flushed_kb (c : Dev nD) (t : Fin cfg0.N) : (dats m 0 c).flushed 12 t = ((cfg0.win 12).blk t).view.read (Elt Ideal) (Gkb m c) := by
  rw [Value.flushed12]
  funext j
  idx_vars j
  obtain ⟨-, -, ⟨h, h'⟩, -⟩ := idx_facts' t
  have he : ((cfg0.win 12).blk t).view.emb (ix2 j0 j1) = ix2 (row t j0) j1 := by
    funext a; apply Fin.ext
    match a with
    | ⟨0, _⟩ => show win0_12.index t (0 : Fin 2) * 512 + 1 * j0.val = 512 * t.val + j0.val; rw [h]; omega
    | ⟨1, _⟩ => show win0_12.index t (1 : Fin 2) * 512 + 1 * j1.val = j1.val; rw [h']; omega
  show (outsAt0 m c t.val t.isLt).2.1 (ix2 j0 j1) = Gkb m c (((cfg0.win 12).blk t).view.emb (ix2 j0 j1))
  rw [he]
  exact kb_block m c t j0 j1

theorem flushed_vb (c : Dev nD) (t : Fin cfg0.N) : (dats m 0 c).flushed 13 t = ((cfg0.win 13).blk t).view.read (Elt Ideal) (Gvb m c) := by
  rw [Value.flushed13]
  funext j
  idx_vars j
  obtain ⟨-, -, -, h, h'⟩ := idx_facts' t
  have he : ((cfg0.win 13).blk t).view.emb (ix2 j0 j1) = ix2 (row t j0) j1 := by
    funext a; apply Fin.ext
    match a with
    | ⟨0, _⟩ => show win0_13.index t (0 : Fin 2) * 512 + 1 * j0.val = 512 * t.val + j0.val; rw [h]; omega
    | ⟨1, _⟩ => show win0_13.index t (1 : Fin 2) * 512 + 1 * j1.val = j1.val; rw [h']; omega
  show (outsAt0 m c t.val t.isLt).2.2.1 (ix2 j0 j1) = Gvb m c (((cfg0.win 13).blk t).view.emb (ix2 j0 j1))
  rw [he]
  exact vb_block m c t j0 j1

theorem flushed_zs (c : Dev nD) (t : Fin cfg0.N) : (dats m 0 c).flushed 15 t = ((cfg0.win 15).blk t).view.read (Elt Ideal) (Gzs m c) := by
  rw [Value.flushed15]
  funext j
  idx_vars j
  obtain ⟨-, -, -, -, -, -, -, -, -, ⟨h, h'⟩, -⟩ := idx_facts t
  have he : ((cfg0.win 15).blk t).view.emb (ix2 j0 j1) = ix2 (row t j0) j1 := by
    funext a; apply Fin.ext
    match a with
    | ⟨0, _⟩ => show win0_15.index t (0 : Fin 2) * 512 + 1 * j0.val = 512 * t.val + j0.val; rw [h]; omega
    | ⟨1, _⟩ => show win0_15.index t (1 : Fin 2) * 512 + 1 * j1.val = j1.val; rw [h']; omega
  show (outsAt0 m c t.val t.isLt).2.2.2.2.1 (ix2 j0 j1) = Gzs m c (((cfg0.win 15).blk t).view.emb (ix2 j0 j1))
  rw [he]
  exact zs_block m c t j0 j1

theorem flushed_ogm (c : Dev nD) (t : Fin cfg0.N) : (dats m 0 c).flushed 18 t = ((cfg0.win 18).blk t).view.read (Elt Ideal) (Gogm m c) := by
  rw [Value.flushed18]
  funext j
  idx_vars j
  obtain ⟨-, -, -, -, -, -, -, -, -, -, h, h'⟩ := idx_facts t
  have he : ((cfg0.win 18).blk t).view.emb (ix2 j0 j1) = ix2 (row t j0) j1 := by
    funext a; apply Fin.ext
    match a with
    | ⟨0, _⟩ => show win0_18.index t (0 : Fin 2) * 512 + 1 * j0.val = 512 * t.val + j0.val; rw [h]; omega
    | ⟨1, _⟩ => show win0_18.index t (1 : Fin 2) * 512 + 1 * j1.val = j1.val; rw [h']; omega
  show (outsAt0 m c t.val t.isLt).2.2.2.2.2.2.2.1 (ix2 j0 j1) = Gogm m c (((cfg0.win 18).blk t).view.emb (ix2 j0 j1))
  rw [he]
  exact ogm_block m c t j0 j1

theorem final_q (c : Dev nD) : (dats m 0 c).arrAt 11 cfg0.N = Gq m c :=
  (dats m 0 c).arrAt_eq_of_cover 11 _ (fun t _ => flushed_q m c t) (fun i => (Value.covered_iff11 i).2 (by
    have h0 : (i 0).val < 65536 := (i 0).isLt; have h1 : (i 1).val < 512 := (i 1).isLt; omega))

theorem final_kb (c : Dev nD) : (dats m 0 c).arrAt 12 cfg0.N = Gkb m c :=
  (dats m 0 c).arrAt_eq_of_cover 12 _ (fun t _ => flushed_kb m c t) (fun i => (Value.covered_iff12 i).2 (by
    have h0 : (i 0).val < 65536 := (i 0).isLt; have h1 : (i 1).val < 512 := (i 1).isLt; omega))

theorem final_vb (c : Dev nD) : (dats m 0 c).arrAt 13 cfg0.N = Gvb m c :=
  (dats m 0 c).arrAt_eq_of_cover 13 _ (fun t _ => flushed_vb m c t) (fun i => (Value.covered_iff13 i).2 (by
    have h0 : (i 0).val < 65536 := (i 0).isLt; have h1 : (i 1).val < 512 := (i 1).isLt; omega))

theorem final_zs (c : Dev nD) : (dats m 0 c).arrAt 15 cfg0.N = Gzs m c :=
  (dats m 0 c).arrAt_eq_of_cover 15 _ (fun t _ => flushed_zs m c t) (fun i => (Value.covered_iff15 i).2 (by
    have h0 : (i 0).val < 65536 := (i 0).isLt; have h1 : (i 1).val < 512 := (i 1).isLt; omega))

theorem final_ogm (c : Dev nD) : (dats m 0 c).arrAt 18 cfg0.N = Gogm m c :=
  (dats m 0 c).arrAt_eq_of_cover 18 _ (fun t _ => flushed_ogm m c t) (fun i => (Value.covered_iff18 i).2 (by
    have h0 : (i 0).val < 65536 := (i 0).isLt; have h1 : (i 1).val < 512 := (i 1).isLt; omega))

end Cert.InprojIdeal.Layer

namespace Cert.Layer

open Idealize.ShloMosaic Idealize.ShloMosaic.TcCoe Idealize.SL.Sem

theorem in_algebraic : Cert.algebraic_InprojIdeal_InprojRefIdeal (hInprojIdeal := Cert.InprojIdeal.Gen.facts) (hInprojRefIdeal := Cert.InprojRefIdeal.Gen.facts) := by
  intro m g m' g' _ hagree
  refine ⟨fun c => InprojIdeal.Layer.Gq m c, fun c => InprojIdeal.Layer.Gkb m c, fun c => InprojIdeal.Layer.Gvb m c,
    fun c => InprojIdeal.Layer.Gzs m c, fun c => InprojIdeal.Layer.Gogm m c, ?_, ?_⟩
  · refine (θ_run _ _ _).mono (fun r h c => ?_) (InprojIdeal.Value.run_blocks m g)
    obtain ⟨h0, h1, h2, -, h4, -, -, h7, hr⟩ := h c
    exact ⟨h0.trans (InprojIdeal.Layer.final_q m c), h1.trans (InprojIdeal.Layer.final_kb m c), h2.trans (InprojIdeal.Layer.final_vb m c),
      h4.trans (InprojIdeal.Layer.final_zs m c), h7.trans (InprojIdeal.Layer.final_ogm m c), hr⟩
  · refine (θ_run _ _ _).mono (fun r h c => ?_) (InprojRefIdeal.Value.run m' g')
    obtain ⟨e0, e1, e2, e3, e4, e5, e6, e7, e8, e9, e10, e11⟩ := hagree c
    obtain ⟨k0, k1, k2, k3, k4, hr⟩ := h c
    have hj : ∀ (r : Fin 65536) (j : Fin 3080), InprojRefIdeal.Layer.proj3 m' c (batch r) (pos r) j = InprojIdeal.Layer.proj m c r j := by
      intro r j
      unfold InprojRefIdeal.Layer.proj3 InprojRefIdeal.Layer.norm3
      rw [e0, e1, e2, e3, e4]
      rfl
    have hl : ∀ (r : Fin 65536) (j : Fin 1536) (s : Nat), InprojRefIdeal.Layer.lag3 m' c (batch r) (pos r) j s = InprojIdeal.Layer.lag m c r j s := by
      intro r j s
      unfold InprojRefIdeal.Layer.lag3 InprojIdeal.Layer.lag
      by_cases hs : r.val % 4096 < s
      · rw [if_pos (show (pos r).val < s from hs), if_pos hs]
      · rw [if_neg (show ¬(pos r).val < s from hs), if_neg hs]
        rw [← hj]
        have hb : batch r = batch ⟨r.val - s, by omega⟩ := Fin.ext (by show r.val / 4096 = (r.val - s) / 4096; omega)
        have hp : (⟨(pos r).val - s, by omega⟩ : Fin 4096) = pos ⟨r.val - s, by omega⟩ := Fin.ext (by show r.val % 4096 - s = (r.val - s) % 4096; omega)
        rw [hb, hp]
    have ha : ∀ (r : Fin 65536) (j : Fin 1536), InprojRefIdeal.Layer.act3 m' c (batch r) (pos r) j = InprojIdeal.Layer.act m c r j := by
      intro r j
      unfold InprojRefIdeal.Layer.act3 InprojIdeal.Layer.act
      rw [hj, hl, hl, hl, e5]
    refine ⟨k0.trans ?_, k1.trans ?_, k2.trans ?_, k3.trans ?_, k4.trans ?_, hr⟩
    · funext i
      idx_vars i
      refine (InprojRefIdeal.Layer.q_apply (InprojRefIdeal.Value.res_main_v53 (StableHlo.launchContents m' c)) i0 i1).trans ?_
      simp only [InprojRefIdeal.Layer.v53_at, ha]
      rfl
    · funext i
      idx_vars i
      refine (InprojRefIdeal.Layer.gated_apply (InprojRefIdeal.Layer.unitTerm (InprojRefIdeal.Value.res_main_v55 (StableHlo.launchContents m' c)))
        (InprojRefIdeal.Value.res_main_v65 (StableHlo.launchContents m' c)) i0 i1).trans ?_
      rw [InprojRefIdeal.Layer.unit_apply]
      simp only [InprojRefIdeal.Layer.v55_at, InprojRefIdeal.Layer.v65_at, ha, hj]
      rfl
    · funext i
      idx_vars i
      refine (InprojRefIdeal.Layer.gated_apply _ (InprojRefIdeal.Value.res_main_v65 (StableHlo.launchContents m' c)) i0 i1).trans ?_
      rw [InprojRefIdeal.Layer.values_at]
      simp only [InprojRefIdeal.Layer.v65_at, ha, hj]
      rfl
    · unfold InprojRefIdeal.Value.res_main_v58
      rw [InprojRefIdeal.Layer.v21_eq]
      funext i
      idx_vars i
      refine (InprojRefIdeal.Layer.silu_apply (InprojRefIdeal.Layer.projTerm m' c) i0 i1).trans ?_
      rw [InprojRefIdeal.Layer.proj_apply, hj]
      rfl
    · refine Eq.trans (b := InprojRefIdeal.Layer.ogmTerm m' c) ?_ ?_
      · unfold InprojRefIdeal.Value.res_main_v123 InprojRefIdeal.Value.res_main_v121 InprojRefIdeal.Value.res_main_v117 InprojRefIdeal.Value.res_main_v104 InprojRefIdeal.Value.res_main_v90
        rw [InprojRefIdeal.Layer.v21_eq]
        rfl
      funext i
      idx_vars i
      refine (InprojRefIdeal.Layer.ogm_apply m' c i0 i1).trans ?_
      have hb : ∀ s, batch i0 = batch (InprojIdeal.Layer.chunkRow i0 s) := fun s =>
        Fin.ext (by show i0.val / 4096 = (128 * (i0.val / 128) + s.val) / 4096; omega)
      have hp : ∀ s, posOf (chunk i0) s = pos (InprojIdeal.Layer.chunkRow i0 s) := fun s =>
        Fin.ext (by show 128 * (i0.val % 4096 / 128) + s.val = (128 * (i0.val / 128) + s.val) % 4096; omega)
      have hj : ∀ (r : Fin 65536) (j : Fin 3080), InprojRefIdeal.Layer.proj3 m' c (batch r) (pos r) j = InprojIdeal.Layer.proj m c r j := by
        intro r j
        unfold InprojRefIdeal.Layer.proj3 InprojRefIdeal.Layer.norm3
        rw [e0, e1, e2, e3, e4]
        rfl
      have hs : ∀ (s : Fin 128) (j : Fin 3080), InprojRefIdeal.Layer.proj3 m' c (batch i0) (posOf (chunk i0) s) j = InprojIdeal.Layer.proj m c (InprojIdeal.Layer.chunkRow i0 s) j := by
        intro s j
        rw [hb s, hp s, hj]
      unfold InprojRefIdeal.Layer.ogmOf
      simp only [hj, hs]
      rw [e8, e9, e10, e11]
      rfl

end Cert.Layer
end
-- ==== Proof.lean ====
module

public import proofs.«01_k».proof.Defs
public import proofs.«01_k».proof.Proof.Gen.Experts
public import proofs.«01_k».proof.Proof.Gen.Experts.Flash.Runs
public import proofs.«01_k».proof.Proof.Gen.ExpertsIdeal
public import proofs.«01_k».proof.Proof.Gen.ExpertsIdeal.Flash.Runs
public import proofs.«01_k».proof.Proof.Gen.ExpertsRefIdeal
public import proofs.«01_k».proof.Proof.Gen.ExpertsRefIdeal.Run
public import proofs.«01_k».proof.Proof.Gen.Pre_names_an_expert
public import proofs.«01_k».proof.Proof.ExpertsWordLaunch
public import proofs.«01_k».proof.Proof.ExpertsLaunch
public import proofs.«01_k».proof.Proof.Experts
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojRefIdeal
public import proofs.«01_k».proof.Proof.Gen.OutprojIdeal.Value
public import proofs.«01_k».proof.Proof.Gen.OutprojRefIdeal.Run
public import proofs.«01_k».proof.Proof.Out
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Ffn
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Run
public import proofs.«01_k».proof.Proof.Inproj
public import Idealize.ShloMosaic.Adequacy
public import Idealize.ShloMosaic.Init

@[expose] public section

noncomputable section

namespace Cert.Proof

open Idealize.ShloMosaic Idealize.SL.Sem

theorem claim : Cert.Claim := ⟨Cert.Experts.Gen.facts, Cert.ExpertsIdeal.Gen.facts, Cert.ExpertsRefIdeal.Gen.facts,
  Cert.Ffn.Gen.facts, Cert.FfnIdeal.Gen.facts, Cert.FfnRefIdeal.Gen.facts,
  Cert.Outproj.Gen.facts, Cert.OutprojIdeal.Gen.facts, Cert.OutprojRefIdeal.Gen.facts,
  Cert.Inproj.Gen.facts, Cert.InprojIdeal.Gen.facts, Cert.InprojRefIdeal.Gen.facts,
  Cert.Pre_names_an_expert.Gen.facts,
  Cert.Experts.Tab.quiescent,
  Cert.ExpertsIdeal.Tab.quiescent,
  fun m ρ _ => (θ_run Cert.ExpertsRefIdeal.defs _ _).mono
    (fun r h => ⟨fun c => (h c).2, Idealize.ShloMosaic.sem_eq_zero_of_no_sems (by decide) r.2⟩)
    (Cert.ExpertsRefIdeal.Value.run (F := Ideal) m ρ),
  fun m ρ _ => (θ_run Cert.ExpertsRefIdeal.defs _ _).mono
    (fun r h => ⟨fun c => (h c).2, Idealize.ShloMosaic.sem_eq_zero_of_no_sems (by decide) r.2⟩)
    (Cert.ExpertsRefIdeal.Value.run (F := Ideal) m ρ),
  fun m ρ _ => Cert.Ffn.Gen.frame m ρ,
  fun m ρ _ => Cert.FfnIdeal.Gen.frame m ρ,
  fun m ρ _ => (θ_run Cert.FfnRefIdeal.defs _ _).mono
    (fun r h => ⟨fun c => (h c).2, Idealize.ShloMosaic.sem_eq_zero_of_no_sems (by decide) r.2⟩)
    (Cert.FfnRefIdeal.Value.run (F := Ideal) m ρ),
  fun m ρ _ => Cert.Outproj.Gen.frame m ρ,
  fun m ρ _ => Cert.OutprojIdeal.Gen.frame m ρ,
  fun m ρ _ => (θ_run Cert.OutprojRefIdeal.defs _ _).mono
    (fun r h => ⟨fun c => (h c).2, Idealize.ShloMosaic.sem_eq_zero_of_no_sems (by decide) r.2⟩)
    (Cert.OutprojRefIdeal.Value.run (F := Ideal) m ρ),
  fun m ρ _ => Cert.Inproj.Gen.frame m ρ,
  fun m ρ _ => Cert.InprojIdeal.Gen.frame m ρ,
  fun m ρ _ => (θ_run Cert.InprojRefIdeal.defs _ _).mono
    (fun r h => ⟨fun c => (h c).2.2.2.2.2, Idealize.ShloMosaic.sem_eq_zero_of_no_sems (by decide) r.2⟩)
    (Cert.InprojRefIdeal.Value.run (F := Ideal) m ρ),
  trivial,
  Cert.Layer.experts_algebraic,
  trivial,
  Cert.Layer.ffn_algebraic,
  trivial,
  Cert.Layer.out_algebraic,
  trivial,
  Cert.Layer.in_algebraic⟩

end Cert.Proof

end
